-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv200" .f32 0x3BA3D70A#32 ((1 / 200 : ℝ) : EReal)
  ∧ IdealRules.named_const.Statement Cert.KernelIdeal.κ "log200" .f32 0x40A98BD1#32 ((Real.log 200 : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16x4096x256 : Shape := ⟨3, ![16, 4096, 256]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S16x4096x256 .f32) (main_arg1 : IVec S16 32) : IVec S_ 1 :=
  let main_c : IVec S_ 32 := constantI S_ 32 1#32
  let main_v0 : IVec S16 32 := broadcastInDim S16 ![] bcast_S_S16 main_c
  let main_v1 : IVec S16 1 := cmpi .sge main_arg1 main_v0
  let main_c_0 : IVec S_ 32 := constantI S_ 32 4096#32
  let main_v2 : IVec S16 32 := broadcastInDim S16 ![] bcast_S_S16 main_c_0
  let main_v3 : IVec S16 1 := cmpi .sle main_arg1 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  main_v5
-- ==== Kernel.lean ====
abbrev S16x4096x256 : Shape := ⟨3, ![16, 4096, 256]⟩
abbrev S16 : Shape := ⟨1, ![16]⟩
abbrev S65536x2x128 : Shape := ⟨3, ![65536, 2, 128]⟩
abbrev S4128 : Shape := ⟨1, ![4128]⟩
abbrev S16x2x128 : Shape := ⟨3, ![16, 2, 128]⟩
abbrev S_ : Shape := ⟨0, ![]⟩
abbrev S8x2x128 : Shape := ⟨3, ![8, 2, 128]⟩
abbrev S8 : Shape := ⟨1, ![8]⟩
abbrev S1x1x16 : Shape := ⟨3, ![1, 1, 16]⟩
abbrev S2064 : Shape := ⟨1, ![2064]⟩
abbrev S16x258 : Shape := ⟨2, ![16, 258]⟩

abbrev nBuf : Table → Nat
  | .hbm => 5
  | .local .scVector .vmem => 4
  | _ => 0

abbrev bufTy : (tb : Table) → Fin (nBuf tb) → BufTy
  | .hbm, ⟨0, _⟩ => ⟨S16x4096x256, .f32⟩
  | .hbm, ⟨1, _⟩ => ⟨S16, .i32⟩
  | .hbm, ⟨2, _⟩ => ⟨S65536x2x128, .f32⟩
  | .hbm, ⟨3, _⟩ => ⟨S4128, .f32⟩
  | .hbm, ⟨4, _⟩ => ⟨S16x258, .f32⟩
  | .local .scVector .vmem, ⟨0, _⟩ => ⟨S16, .i32⟩
  | .local .scVector .vmem, ⟨1, _⟩ => ⟨S16, .i32⟩
  | .local .scVector .vmem, ⟨2, _⟩ => ⟨S16x2x128, .f32⟩
  | .local .scVector .vmem, ⟨3, _⟩ => ⟨S4128, .f32⟩
  | _, _ => ⟨S16x4096x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 1], ![false, false]⟩

def k0_chk1 (v18 : IVec S16 32) : Prop :=
  (∀ a x, ((![v18] : Fin 1 → IVec S16 32) a x).toNat < S4128.size a)
theorem k0_idx1_inb : ∀ (v18 : IVec S16 32) (k0_hw1 : k0_chk1 v18), ∀ a x, ((![v18] : Fin 1 → IVec S16 32) a x).toNat < S4128.size a := fun v18 k0_hw1 => k0_hw1

def k0_chk2 (v24 : IVec S16 32) : Prop :=
  (∀ a x, ((![v24] : Fin 1 → IVec S16 32) a x).toNat < S4128.size a)
theorem k0_idx2_inb : ∀ (v24 : IVec S16 32) (k0_hw2 : k0_chk2 v24), ∀ a x, ((![v24] : Fin 1 → IVec S16 32) a x).toNat < S4128.size a := fun v24 k0_hw2 => k0_hw2
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 1 | ⟨_ + 1, h⟩ => absurd h (Nat.not_lt.2 (Nat.le_add_left _ _))
-- ==== KernelIdeal.lean ====
variable {F : FTy → Type} [FloatOps F] [Named F]
def κ : String → Option EReal := fun
  | "inv200" => some ((1 / 200 : ℝ) : EReal)
  | "log200" => some ((Real.log 200 : ℝ) : EReal)
  | _ => none
-- ==== ReferenceIdeal.lean ====
abbrev S16x4096x256 : Shape := ⟨3, ![16, 4096, 256]⟩
abbrev S16 : Shape := ⟨1, ![16]⟩
abbrev S16x1 : Shape := ⟨2, ![16, 1]⟩
abbrev S_ : Shape := ⟨0, ![]⟩
abbrev S16x2 : Shape := ⟨2, ![16, 2]⟩
abbrev S16x256 : Shape := ⟨2, ![16, 256]⟩
abbrev S16x258 : Shape := ⟨2, ![16, 258]⟩

abbrev nBuf : Space → Nat
  | .hbm => 32
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16, .i32⟩
  | .hbm, ⟨2, _⟩ => ⟨S16, .f32⟩
  | .hbm, ⟨3, _⟩ => ⟨S16x1, .f32⟩
  | .hbm, ⟨4, _⟩ => ⟨S_, .f32⟩
  | .hbm, ⟨5, _⟩ => ⟨S16x1, .f32⟩
  | .hbm, ⟨6, _⟩ => ⟨S16x1, .f32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S_, .i32⟩
  | .hbm, ⟨12, _⟩ => ⟨S16, .i32⟩
  | .hbm, ⟨13, _⟩ => ⟨S16, .i1⟩
  | .hbm, ⟨14, _⟩ => ⟨S_, .i32⟩
  | .hbm, ⟨15, _⟩ => ⟨S16, .i32⟩
  | .hbm, ⟨16, _⟩ => ⟨S16, .i32⟩
  | .hbm, ⟨17, _⟩ => ⟨S16, .i32⟩
  | .hbm, ⟨18, _⟩ => ⟨S_, .i32⟩
  | .hbm, ⟨19, _⟩ => ⟨S16, .i32⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S16, .i32⟩
  | .hbm, ⟨25, _⟩ => ⟨S16x1, .i32⟩
  | .hbm, ⟨26, _⟩ => ⟨S16x1, .i32⟩
  | .hbm, ⟨27, _⟩ => ⟨S16x2, .i32⟩
  | .hbm, ⟨28, _⟩ => ⟨S16x256, .f32⟩
  | .hbm, ⟨29, _⟩ => ⟨S16x1, .f32⟩
  | .hbm, ⟨30, _⟩ => ⟨S16x1, .f32⟩
  | .hbm, ⟨31, _⟩ => ⟨S16x258, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Proof.Steps.lean ====
/-
  The kernel's body as a head, two runs of copy steps, and a tail.

  The printed body spells out 256 copies of sixteen elements, one after another, cut into parts. Here one copy is
  written once, as a function of its number `k`, and a run of them by recursion; the printed body is shown to be the
  head, the copies of rows 0..7, the first write-out's start, the second gather's wait, the copies of rows 8..15 and
  the closing transfers, by unfolding.
-/
module

public import proofs.«01_k».proof.Defs
public import proofs.«01_k».proof.Proof.Gen.KernelIdeal
public import proofs.«01_k».proof.Proof.Gen.KernelIdeal.Skeleton

@[expose] public section

noncomputable section

namespace Cert.Proof.Steps

open Cert.KernelIdeal Cert.KernelIdeal.Gen
open Idealize.ShloMosaic Idealize.SL.Sem

variable {F : FTy → Type} [FloatOps F] [Named F]

/-- Where copy `k` reads in the row scratch: row `k / 16`, lane group `k % 16` of that row's 256 elements. -/
abbrev srcOff (k : ℕ) : Fin 3 → ℕ := ![k / 16 % 16, k % 16 / 8, k % 8 * 16]
/-- Where copy `k` writes in the output scratch. -/
abbrev dstOff (k : ℕ) : Fin 1 → ℕ := ![k / 16 % 16 * 258 + k % 16 * 16]

theorem src_inb (k : ℕ) : ∀ a, srcOff k a + S1x1x16.size a ≤ S16x2x128.size a := by
  intro a
  match a with
  | 0 => show k / 16 % 16 + 1 ≤ 16; omega
  | 1 => show k % 16 / 8 + 1 ≤ 2; omega
  | 2 => show k % 8 * 16 + 16 ≤ 128; omega

theorem dst_inb (k : ℕ) : ∀ a, dstOff k a + S16.size a ≤ S4128.size a := by
  intro a
  match a with
  | 0 => show k / 16 % 16 * 258 + k % 16 * 16 + 16 ≤ 4128; omega

/-- The sixteen elements copy `k` reads, and the sixteen it writes. -/
abbrev srcRect (k : ℕ) : Rect S16x2x128 := Rect.unit (s := S16x2x128) (srcOff k) S1x1x16.size (src_inb k)
abbrev dstRect (k : ℕ) : Rect S4128 := Rect.unit (s := S4128) (dstOff k) S16.size (dst_inb k)

variable {i : grid0.Coords}

abbrev TP (F : FTy → Type) (i : grid0.Coords) (α : Type) : Type 1 :=
  Prog (TpuEff nD τ sig (Elt F) Λ₀ (.scVector ((i 0).castLE hcore0) ((i 1).castLE hsub0))) α

/-- Copy `k`: sixteen elements of the row scratch read, the output scratch read (a value nothing uses), written. -/
def copyStep (arg7 : Memref sig .scVector .vmem S16x2x128 .f32) (arg8 : Memref sig .scVector .vmem S4128 .f32) (k : ℕ) : TP F i PUnit := do
  let v : Vec F S1x1x16 .f32 ← Prog.lift (.load arg7 (srcRect k).toLoadRect (View.loadsAt_vmem h_S1x1x16))
  let _w : Vec F S16 .f32 ← Prog.lift (.load arg8 (dstRect k).toLoadRect (View.loadsAt_vmem h_S16))
  Prog.lift (.store arg8 (dstRect k) (shapeCast S16 v shapeCasts_S1x1x16_S16) Finset.univ (View.stores_vmem_bits_univ h_S16 rfl) (.inl rfl))

/-- Copies `k, k + 1, …`, `n` of them. -/
def copies (arg7 : Memref sig .scVector .vmem S16x2x128 .f32) (arg8 : Memref sig .scVector .vmem S4128 .f32) : ℕ → ℕ → TP F i PUnit
  | 0, _ => .ret ⟨⟩
  | n + 1, k => do copyStep arg7 arg8 k; copies arg7 arg8 n (k + 1)

/-- The printed body, its copies as two runs. -/
def body (i : grid0.Coords) (arg2 : Memref sig .scVector .hbm S65536x2x128 .f32) (harg2 : arg2.IsWhole) (arg3 : Memref sig .scVector .hbm S16 .i32) (harg3 : arg3.IsWhole) (arg4 : Memref sig .scVector .hbm S4128 .f32) (harg4 : arg4.IsWhole) (arg5 : Memref sig .scVector .vmem S16 .i32) (harg5 : arg5.IsWhole) (arg6 : Memref sig .scVector .vmem S16 .i32) (harg6 : arg6.IsWhole) (arg7 : Memref sig .scVector .vmem S16x2x128 .f32) (harg7 : arg7.IsWhole) (arg8 : Memref sig .scVector .vmem S4128 .f32) (harg8 : arg8.IsWhole) (arg9 arg10 arg11 arg12 r0 : DmaSems sig S_) : TP F i PUnit := do
  let ⟨v24, hw2, v25, l200⟩ ← k0_part1_skel i arg2 harg2 arg3 harg3 arg4 harg4 arg5 harg5 arg6 harg6 arg7 harg7 arg8 harg8 arg9 arg10 arg11 arg12 r0
  SparseCore.vectorStoreIdx arg8 ![v24] (subf (broadcast S16 l200) v25) (fun _ => 1#1) false (k0_idx2_inb v24 hw2) (View.stores_vmem_bits_univ h_S4128 rfl)
  SparseCore.waitIndirectGather arg9.sem (arg2.slice (Rect.unit (s := S65536x2x128) ![0, 0, 0] S65536x2x128.size inb_S65536x2x128_S65536x2x128_0_0_0) (fun _ => rfl))
    (arg7.slice (Rect.unit (s := S16x2x128) ![0, 0, 0] S8x2x128.size inb_S16x2x128_S8x2x128_0_0_0) (fun _ => rfl)) (View.wordExact_bits rfl) (View.wordExact_bits rfl)
  copies arg7 arg8 128 0
  Prog.lift (.enqueueDma (arg8.slice (Rect.unit (s := S4128) ![0] S2064.size inb_S4128_S2064_0) (fun _ => rfl))
    (.here (arg4.slice (Rect.unit (s := S4128) ![0] S2064.size inb_S4128_S2064_0) (fun _ => rfl))) (.dma arg11.sem) (View.wordExact_bits rfl) (View.wordExact_bits rfl) ⟨Or.inl rfl, trivial⟩)
  SparseCore.waitIndirectGather arg10.sem (arg2.slice (Rect.unit (s := S65536x2x128) ![0, 0, 0] S65536x2x128.size inb_S65536x2x128_S65536x2x128_0_0_0) (fun _ => rfl))
    (arg7.slice (Rect.unit (s := S16x2x128) ![8, 0, 0] S8x2x128.size inb_S16x2x128_S8x2x128_8_0_0) (fun _ => rfl)) (View.wordExact_bits rfl) (View.wordExact_bits rfl)
  copies arg7 arg8 128 128
  Prog.lift (.enqueueDma (arg8.slice (Rect.unit (s := S4128) ![2064] S2064.size inb_S4128_S2064_2064) (fun _ => rfl))
    (.here (arg4.slice (Rect.unit (s := S4128) ![2064] S2064.size inb_S4128_S2064_2064) (fun _ => rfl))) (.dma arg12.sem) (View.wordExact_bits rfl) (View.wordExact_bits rfl) ⟨Or.inl rfl, trivial⟩)
  Prog.lift (.waitDma2 arg11.sem (arg8.slice (Rect.unit (s := S4128) ![0] S2064.size inb_S4128_S2064_0) (fun _ => rfl))
    (arg4.slice (Rect.unit (s := S4128) ![0] S2064.size inb_S4128_S2064_0) (fun _ => rfl)) (View.wordExact_bits rfl) (View.wordExact_bits rfl))
  Prog.lift (.waitDma2 arg12.sem (arg8.slice (Rect.unit (s := S4128) ![2064] S2064.size inb_S4128_S2064_2064) (fun _ => rfl))
    (arg4.slice (Rect.unit (s := S4128) ![2064] S2064.size inb_S4128_S2064_2064) (fun _ => rfl)) (View.wordExact_bits rfl) (View.wordExact_bits rfl))

end Cert.Proof.Steps

end
-- ==== Proof.Unroll.lean ====
/-
  The printed body of the kernel is the head, the two runs of copy steps and the closing transfers (`Steps.body`).
-/
module

public import proofs.«01_k».proof.Proof.Steps

@[expose] public section

noncomputable section

namespace Cert.Proof.Steps

open Cert.KernelIdeal Cert.KernelIdeal.Gen
open Idealize.ShloMosaic Idealize.SL.Sem

variable {F : FTy → Type} [FloatOps F] [Named F]

set_option maxRecDepth 65536 in
set_option maxHeartbeats 4000000 in
/-- The printed body is `body`. -/
theorem encode_eq : cc0__encode (F := F) = body (F := F) := by
  funext i arg2 harg2 arg3 harg3 arg4 harg4 arg5 harg5 arg6 harg6 arg7 harg7 arg8 harg8 arg9 arg10 arg11 arg12 r0
  rfl

end Cert.Proof.Steps

end
-- ==== Proof.Contents.lean ====
/-
  What the output scratch holds while the kernel copies rows into it: a function of the number of copies done.
-/
module

public import proofs.«01_k».proof.Proof.Steps
public import Idealize.ShloMosaic.Lib.ValueIdxCore
public import Idealize.ShloMosaic.Lib.Pipeline.Value

@[expose] public section

noncomputable section

namespace Cert.Proof.Contents

open Cert.KernelIdeal Cert.KernelIdeal.Gen Cert.Proof.Steps
open Idealize.ShloMosaic Idealize.SL.Sem
open Idealize.ShloMosaic.ValueIdx

variable {F : FTy → Type} [FloatOps F] [Named F]

local notation "rV" => (Memref.whole Cert.KernelIdeal.cc0_scratch2 : Memref Cert.KernelIdeal.sig Kind.scVector Space.vmem Cert.KernelIdeal.S16x2x128 EltTy.f32)
local notation "bV" => (Memref.whole Cert.KernelIdeal.cc0_scratch3 : Memref Cert.KernelIdeal.sig Kind.scVector Space.vmem Cert.KernelIdeal.S4128 EltTy.f32)

/-- Where element `j` of the output scratch comes from in the row scratch, when it is one of its row's first 256. -/
def srcIx (j : S4128.Idx) : S16x2x128.Idx :=
  ix3 (⟨(j 0).val / 258, by have : (j 0).val < 4128 := (j 0).isLt; omega⟩ : Fin 16)
    (⟨(j 0).val % 258 / 128 % 2, Nat.mod_lt _ (by decide)⟩ : Fin 2)
    (⟨(j 0).val % 258 % 128, Nat.mod_lt _ (by decide)⟩ : Fin 128)

/-- Element `j` is one of those the first `n` copies write. -/
def Copied (n : ℕ) (j : S4128.Idx) : Prop := (j 0).val % 258 < 256 ∧ (j 0).val / 258 * 16 + (j 0).val % 258 / 16 < n

instance (n : ℕ) (j : S4128.Idx) : Decidable (Copied n j) := inferInstanceAs (Decidable (_ ∧ _))

/-- The output scratch after the first `n` copies of `rows` over `base`. -/
def placed (rows : FVec F S16x2x128 .f32) (base : FVec F S4128 .f32) (n : ℕ) : FVec F S4128 .f32 :=
  fun j => if Copied n j then rows (srcIx j) else base j

/-- Before any copy it is what it was. -/
theorem placed_zero (rows : FVec F S16x2x128 .f32) (base : FVec F S4128 .f32) : placed rows base 0 = base :=
  funext fun j => if_neg fun h => absurd h.2 (Nat.not_lt_zero _)

/-- Sixteen elements recast from one row of a row: the element of the same number. -/
theorem recast (x : S16.Idx) : Shape.reshapeEquiv (shapeCasts_S1x1x16_S16 : S1x1x16.ShapeCasts S16) x = ix3 (0 : Fin 1) (0 : Fin 1) (x 0) := by
  have h : ∀ a : Fin 16, Shape.reshapeEquiv (shapeCasts_S1x1x16_S16 : S1x1x16.ShapeCasts S16) (ix1 a) = ix3 (0 : Fin 1) (0 : Fin 1) a := by decide +kernel
  rw [eq_ix1 x]; exact h _

/-- What copy `k` writes at its element `x`. -/
theorem payload_apply (rows : FVec F S16x2x128 .f32) (k : ℕ) (x : S16.Idx) :
    shapeCast S16 (((rV).access (srcRect k)).read (Elt F) rows) shapeCasts_S1x1x16_S16 x
      = rows ((srcRect k).emb (ix3 (0 : Fin 1) (0 : Fin 1) (x 0))) := by
  show ((rV).access (srcRect k)).read (Elt F) rows (Shape.reshapeEquiv _ x) = _
  rw [recast]; rfl

/-- The numbers of copy `k`: element `t` of what it writes lies in row `k / 16`, lane group `k % 16`. -/
theorem place_arith {k t p : ℕ} (hk : k < 256) (ht : t < 16) (hp : p = k / 16 % 16 * 258 + k % 16 * 16 + 1 * t) :
    (p % 258 < 256 ∧ p / 258 * 16 + p % 258 / 16 < k + 1) ∧ k / 16 % 16 + 1 * 0 = p / 258
      ∧ k % 16 / 8 + 1 * 0 = p % 258 / 128 % 2 ∧ k % 8 * 16 + 1 * t = p % 258 % 128 := by
  have h1 : p / 258 = k / 16 := by omega
  have h2 : p % 258 = k % 16 * 16 + t := by omega
  rw [h1, h2]
  refine ⟨⟨?_, ?_⟩, ?_, ?_, ?_⟩ <;> omega

/-- An element no copy but `k` writes is written among the first `k + 1` exactly when it is among the first `k`. -/
theorem copied_arith {k p : ℕ} (hk : k < 256) (hn : ¬ (k / 16 % 16 * 258 + k % 16 * 16 ≤ p ∧ p < k / 16 % 16 * 258 + k % 16 * 16 + 16)) :
    (p % 258 < 256 ∧ p / 258 * 16 + p % 258 / 16 < k + 1) ↔ (p % 258 < 256 ∧ p / 258 * 16 + p % 258 / 16 < k) := by
  have h1 : p = p / 258 * 258 + p % 258 := by omega
  constructor <;> rintro ⟨h2, h3⟩ <;> refine ⟨h2, ?_⟩
  · by_contra h4
    have h5 : p / 258 * 16 + p % 258 / 16 = k := by omega
    have h6 : k / 16 = p / 258 := by omega
    have h7 : k % 16 = p % 258 / 16 := by omega
    apply hn; rw [h6, h7]; omega
  · omega

/-- One copy: the contents after `k` copies, written with copy `k`'s elements, are those after `k + 1`. -/
theorem placed_step (rows : FVec F S16x2x128 .f32) (base : FVec F S4128 .f32) (k : ℕ) (hk : k < 256) :
    ((bV).access (dstRect k)).write (Elt F) (placed rows base k)
        (shapeCast S16 (((rV).access (srcRect k)).read (Elt F) rows) shapeCasts_S1x1x16_S16) Finset.univ
      = placed rows base (k + 1) := by
  funext j
  by_cases hj : j ∈ ((bV).access (dstRect k)).set
  · obtain ⟨x, -, rfl⟩ := Finset.mem_map.mp hj
    refine (View.write_emb_of_mem _ _ (Finset.mem_univ x)).trans ?_
    show shapeCast S16 (((rV).access (srcRect k)).read (Elt F) rows) shapeCasts_S1x1x16_S16 x = placed rows base (k + 1) ((dstRect k).emb x)
    rw [payload_apply]
    obtain ⟨hc, h0, h1, h2⟩ := place_arith (p := (((dstRect k).emb x) 0).val) hk (show (x 0).val < 16 from (x 0).isLt) rfl
    have hc : Copied (k + 1) ((dstRect k).emb x) := hc
    unfold placed; rw [if_pos hc]
    congr 1
    funext a
    match a with
    | 0 => exact Fin.ext h0
    | 1 => exact Fin.ext h1
    | 2 => exact Fin.ext h2
  · refine (View.write_of_not_mem _ _ _ (by rwa [View.setOn_univ])).trans ?_
    have key : ∀ p : ℕ, (hp : (j 0).val = p) → ¬ (k / 16 % 16 * 258 + k % 16 * 16 ≤ p ∧ p < k / 16 % 16 * 258 + k % 16 * 16 + 16) := fun p hp ⟨h1, h2⟩ => hj (by
      refine Finset.mem_map.mpr ⟨ix1 (⟨p - (k / 16 % 16 * 258 + k % 16 * 16), by omega⟩ : Fin 16), Finset.mem_univ _, ?_⟩
      have e : k / 16 % 16 * 258 + k % 16 * 16 + 1 * (p - (k / 16 % 16 * 258 + k % 16 * 16)) = p := by omega
      funext a
      match a with
      | 0 => exact Fin.ext (e.trans hp.symm))
    have hiff : Copied (k + 1) j ↔ Copied k j := copied_arith hk (key _ rfl)
    unfold placed; simp only [hiff]

end Cert.Proof.Contents

end
-- ==== Proof.Copies.lean ====
/-
  The kernel's copy steps as one rule: a run of copies, holding the rows it reads and the part of the output scratch it
  writes, leaves the scratch as the count of copies done says.
-/
module

public import proofs.«01_k».proof.Proof.Contents
public import Idealize.ShloMosaic.Lib.SparseCore.Quiescent
public import Idealize.ShloMosaic.Lib.Tactic

@[expose] public section

noncomputable section

namespace Cert.Proof.Copies

open Cert.KernelIdeal Cert.KernelIdeal.Gen Cert.Proof.Steps Cert.Proof.Contents

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev UH : Type := URounds (GSem nD τ sig) ℕ
abbrev UU : Type := UH × Counters

local notation "𝕄" => MT nD τ sig (HIx 1) (Elt F) ℕ UU ℕ
local notation "rV" => (Memref.whole Cert.KernelIdeal.cc0_scratch2 : Memref Cert.KernelIdeal.sig Kind.scVector Space.vmem Cert.KernelIdeal.S16x2x128 EltTy.f32)
local notation "bV" => (Memref.whole Cert.KernelIdeal.cc0_scratch3 : Memref Cert.KernelIdeal.sig Kind.scVector Space.vmem Cert.KernelIdeal.S4128 EltTy.f32)

abbrev 𝒱₀ : Variants := Variants.none
abbrev cV (L : grid0.Coords) : Fin τ.nSC := (L 0).castLE hcore0
abbrev jV (L : grid0.Coords) : Fin τ.nSub := (L 1).castLE hsub0

variable (d : Dev nD) (L : grid0.Coords)

set_option maxHeartbeats 1000000 in
/-- A run of `n` copies from copy `k`. -/
theorem wp_copies (rows : FVec F S16x2x128 .f32) (base : FVec F S4128 .f32) (q : PosShare TreeShare)
    (R : Finset (Idx ((rV).view.loc (V d (cV L) (jV L))))) (B : Finset (Idx ((bV).view.loc (V d (cV L) (jV L)))))
    (Q : PUnit → sProp 𝕄) (cont : PUnit → TP F L PUnit) :
    ∀ (n k : ℕ) (_ : k + n ≤ 256) (_ : ∀ k', k ≤ k' → k' < k + n → ((rV).access (srcRect k')).set ⊆ R)
      (_ : ∀ k', k ≤ k' → k' < k + n → ((bV).access (dstRect k')).set ⊆ B),
    iprop(((rV).view.loc (V d (cV L) (jV L)) ↦[R]{q} rows) ∗ ((bV).view.loc (V d (cV L) (jV L)) ↦[B]{fullShare} placed rows base k))
      ⊢ iprop((iprop(((rV).view.loc (V d (cV L) (jV L)) ↦[R]{q} rows) ∗ ((bV).view.loc (V d (cV L) (jV L)) ↦[B]{fullShare} placed rows base (k + n)))
            -∗ wp frame (wpE (defs₀ (F := F)) 𝒱₀ (V d (cV L) (jV L)) none) Set.univ (cont ⟨⟩) Q)
          -∗ wp frame (wpE (defs₀ (F := F)) 𝒱₀ (V d (cV L) (jV L)) none) Set.univ (copies rV bV n k >>= cont) Q) := by
  intro n
  induction n with
  | zero =>
    intro k _ _ _
    iintro H Hk
    iapply Hk
    iexact H
  | succ n ih =>
    intro k hk hR hB
    have hR0 := hR k le_rfl (by omega)
    have hB0 := hB k le_rfl (by omega)
    iintro ⟨Hr, Hb⟩ Hk
    iapply (wp_load_rect (defs := defs₀ (F := F)) 𝒱₀ (V d (cV L) (jV L)) none Set.univ (Q := Q) (m := rV) (r := srcRect k) (q := q) (f := rows) hR0) $$ Hr
    iintro Hr
    iapply (wp_load_rect (defs := defs₀ (F := F)) 𝒱₀ (V d (cV L) (jV L)) none Set.univ (Q := Q) (m := bV) (r := dstRect k) (q := fullShare) (f := placed rows base k) hB0) $$ Hb
    iintro Hb
    iapply (wp_store (defs := defs₀ (F := F)) 𝒱₀ (V d (cV L) (jV L)) none Set.univ (Q := Q) (m := bV) (r := dstRect k) (Mk := Finset.univ) (f := placed rows base k) (S := B) hB0) $$ Hb
    iintro Hb
    ihave Hb' := (Entails.of_eq (congrArg (fun f => ((bV).view.loc (V d (cV L) (jV L)) ↦[B]{fullShare} f : sProp 𝕄)) (placed_step rows base k (by omega)))) $$ Hb
    iapply (ih (k + 1) (by omega) (fun k' h1 h2 => hR k' (by omega) (by omega)) (fun k' h1 h2 => hB k' (by omega) (by omega))) $$ [Hr Hb']
    · isplitl [Hr]; · iexact Hr
      iexact Hb'
    rw [show k + 1 + n = k + (n + 1) by omega]
    iexact Hk

end Cert.Proof.Copies

end
-- ==== Proof.Finals.lean ====
/-
  What the kernel computes, as pure functions of the payload `x` (as rows of two rows of 128) and the sixteen lengths
  `l`: the rows it gathers, the two columns it scatters, and the result's flat contents.
-/
module

public import proofs.«01_k».proof.Proof.Contents

@[expose] public section

noncomputable section

namespace Cert.Proof.Finals

open Cert.KernelIdeal Cert.KernelIdeal.Gen Cert.Proof.Steps Cert.Proof.Contents
open Idealize.ShloMosaic Idealize.SL.Sem
open Idealize.ShloMosaic.ValueIdx

variable {F : FTy → Type} [FloatOps F] [Named F]

/-! ## The scatter of one column -/

/-- A lane of sixteen, as an index. -/
theorem ofLane_eq (k : Fin 16) : (Shape.ofLane (d := ![16]) k : S16.Idx) = ix1 k := by
  funext a; match a with | 0 => rfl

/-- The row of the result element `j` lies in. -/
abbrev rowOf (j : S4128.Idx) : Fin 16 := ⟨(j 0).val / 258, by have : (j 0).val < 4128 := (j 0).isLt; omega⟩

/-- One lane of a scatter: element `i` of the flat scratch set to `y`. -/
def setAt (i : ℕ) (y : F .f32) (g : FVec F S4128 .f32) : FVec F S4128 .f32 := fun j => if (j 0).val = i then y else g j

/-- A scatter is its lanes, one after another. -/
theorem storeIdx_fold (f : FVec F S4128 .f32) (idx : IVec S16 32) (v : FVec F S16 .f32)
    (h : ∀ a x, ((![idx] : Fin 1 → IVec S16 32) a x).toNat < S4128.size a) :
    storeIdx (s := S4128) (d := ![16]) (e := .f32) f ![idx] v (fun _ => 1#1) false h
      = (List.finRange 16).foldl (fun g (k : Fin 16) => setAt (idx (ix1 k)).toNat (v (ix1 k)) g) f := by
  unfold storeIdx
  refine congrFun (congrFun (congrArg List.foldl ?_) f) _
  funext g k j
  show _ = setAt (idx (ix1 k)).toNat (v (ix1 k)) g j
  rw [← ofLane_eq k]
  unfold setAt
  have e : (∀ a, (j a).val = (idxAt (s := S4128) (t := S16) ![idx] h (Shape.ofLane k) a).val) ↔ (j 0).val = (idx (Shape.ofLane (d := ![16]) k)).toNat := by
    constructor
    · intro e; exact e 0
    · intro e a
      match a with
      | 0 => exact e
  refine (congrFun (if_pos (rfl : (1#1 : BitVec 1) = 1)) j).trans ?_
  by_cases h1 : (j 0).val = (idx (Shape.ofLane (d := ![16]) k)).toNat
  · exact (if_pos (e.mpr h1)).trans (if_pos h1).symm
  · exact (if_neg (fun h2 => h1 (e.mp h2))).trans (if_neg h1).symm

/-- Lanes that set column `c` of the rows `l` lists. -/
theorem fold_column (w : Fin 16 → F .f32) (c : ℕ) (hc : c < 258) (j : S4128.Idx) :
    ∀ (l : List (Fin 16)) (g : FVec F S4128 .f32),
      (l.foldl (fun g k => setAt (k.val * 258 + c) (w k) g) g) j = if (j 0).val % 258 = c ∧ rowOf j ∈ l then w (rowOf j) else g j := by
  intro l
  induction l with
  | nil => intro g; rw [List.foldl_nil, if_neg (fun h => by simp at h)]
  | cons k l ih =>
    intro g
    rw [List.foldl_cons, ih]
    by_cases h1 : (j 0).val % 258 = c ∧ rowOf j ∈ l
    · rw [if_pos h1, if_pos ⟨h1.1, List.mem_cons_of_mem _ h1.2⟩]
    · rw [if_neg h1]
      unfold setAt
      by_cases h2 : (j 0).val = k.val * 258 + c
      · have hr : rowOf j = k := Fin.ext (by show (j 0).val / 258 = k.val; omega)
        rw [if_pos h2, if_pos ⟨by omega, hr ▸ List.mem_cons_self⟩, hr]
      · rw [if_neg h2, if_neg]
        rintro ⟨e, hm⟩
        rcases List.mem_cons.mp hm with e' | hm'
        · have : (j 0).val / 258 = k.val := congrArg Fin.val e'
          omega
        · exact h1 ⟨e, hm'⟩

/-- A scatter whose lane `k` names element `258 k + c`: column `c` of the sixteen rows is the stored vector. -/
theorem storeIdx_column (f : FVec F S4128 .f32) (idx : IVec S16 32) (v : FVec F S16 .f32) (c : ℕ) (hc : c < 258)
    (h : ∀ a x, ((![idx] : Fin 1 → IVec S16 32) a x).toNat < S4128.size a)
    (hw : ∀ k : Fin 16, (idx (ix1 k)).toNat = k.val * 258 + c) (j : S4128.Idx) :
    storeIdx (s := S4128) (d := ![16]) (e := .f32) f ![idx] v (fun _ => 1#1) false h j = if (j 0).val % 258 = c then v (ix1 (rowOf j)) else f j := by
  rw [storeIdx_fold]
  simp only [hw]
  rw [fold_column (fun k => v (ix1 k)) c hc j]
  simp only [List.mem_finRange, and_true]

/-- The two scatters' words. -/
theorem word_pay3 (k : Fin 16) : ((k0_pay3 (ix1 k : S16.Idx) : BitVec 32)).toNat = k.val * 258 + 256 := by
  revert k; unfold k0_pay3; decide +kernel
theorem word_pay5 (k : Fin 16) : ((k0_pay5 (ix1 k : S16.Idx) : BitVec 32)).toNat = k.val * 258 + 257 := by
  revert k; unfold k0_pay5; decide +kernel

/-- Both scatters address the output scratch within its size. -/
theorem chk_pay3 : k0_chk1 k0_pay3 := by
  intro a x
  match a with
  | 0 =>
    have h : ∀ b : Fin 16, (k0_pay3 (ix1 b : S16.Idx)).toNat < 4128 := fun b => by rw [word_pay3]; omega
    show (k0_pay3 x).toNat < 4128
    exact (congrArg (fun y : S16.Idx => (k0_pay3 y).toNat < 4128) (eq_ix1 x)).mpr (h (x 0))
theorem chk_pay5 : k0_chk2 k0_pay5 := by
  intro a x
  match a with
  | 0 =>
    have h : ∀ b : Fin 16, (k0_pay5 (ix1 b : S16.Idx)).toNat < 4128 := fun b => by rw [word_pay5]; omega
    show (k0_pay5 x).toNat < 4128
    exact (congrArg (fun y : S16.Idx => (k0_pay5 y).toNat < 4128) (eq_ix1 x)).mpr (h (x 0))

/-! ## The result -/

/-- The named logarithm of 200 less the lengths' logarithms. -/
def lastF (l : IVec S16 32) : FVec F S16 .f32 := subf (broadcast S16 (Named.named κ "log200" 0x40A98BD1#32)) (k0_pay6 (F := F) l)

/-- The sixteen rows the kernel gathers: row `b` is row `b * 4096 + l b - 1` of the payload. -/
def rowsF (x : FVec F S65536x2x128 .f32) (l : IVec S16 32) : FVec F S16x2x128 .f32 := fun j =>
  x (ix3 (⟨(k0_pay1 (F := F) l (ix1 (j 0))).toNat % 65536, Nat.mod_lt _ (by decide)⟩ : Fin 65536) (j 1) (j 2))

/-- The result's flat contents: 256 gathered elements, the length over 200, and the last column, sixteen times. -/
def outF (x : FVec F S65536x2x128 .f32) (l : IVec S16 32) : FVec F S4128 .f32 := fun j =>
  if (j 0).val % 258 < 256 then rowsF x l (srcIx j)
  else if (j 0).val % 258 = 256 then k0_pay4 (F := F) l (ix1 (rowOf j)) else lastF l (ix1 (rowOf j))

/-- The output scratch after both scatters, from contents `f`. -/
def scattered (l : IVec S16 32) (f : FVec F S4128 .f32) : FVec F S4128 .f32 :=
  storeIdx (s := S4128) (d := ![16]) (e := .f32)
    (storeIdx (s := S4128) (d := ![16]) (e := .f32) f ![k0_pay3] (k0_pay4 (F := F) l) (fun _ => 1#1) false chk_pay3)
    ![k0_pay5] (lastF (F := F) l) (fun _ => 1#1) false chk_pay5

/-- After the two scatters and all the copies up to an element's row, it is the result's. -/
theorem placed_scattered (x : FVec F S65536x2x128 .f32) (l : IVec S16 32) (f : FVec F S4128 .f32) (n : ℕ) (j : S4128.Idx)
    (hj : (j 0).val / 258 * 16 + 16 ≤ n) : placed (rowsF x l) (scattered l f) n j = outF x l j := by
  unfold placed outF
  by_cases h : (j 0).val % 258 < 256
  · rw [if_pos (show Copied n j from ⟨h, by omega⟩), if_pos h]
  · rw [if_neg (fun hc : Copied n j => h hc.1), if_neg h]
    unfold scattered
    rw [storeIdx_column (F := F) _ k0_pay5 _ 257 (by omega) chk_pay5 word_pay5, storeIdx_column (F := F) _ k0_pay3 _ 256 (by omega) chk_pay3 word_pay3]
    by_cases h1 : (j 0).val % 258 = 256
    · rw [if_neg (by omega), if_pos h1, if_pos h1]
    · rw [if_pos (by omega), if_neg h1]

/-! ## The gathered rows -/

/-- The first row of each lane's sequence. -/
def lane4096 : IVec S16 32 := muli (iota .scVector S16 32 [0] iota_S16_d0_w32_scVector) (broadcast S16 4096#32)
theorem lane4096_val (b : Fin 16) : (lane4096 (ix1 b) : BitVec 32).toNat = b.val * 4096 := by
  revert b; unfold lane4096; decide +kernel

/-- The word lane `b` gathers by, when its length lies in the sequence. -/
theorem word_pay1 (l : IVec S16 32) (hl : ∀ b, 1 ≤ (l b).toNat ∧ (l b).toNat ≤ 4096) (b : Fin 16) :
    ((k0_pay1 (F := F) l (ix1 b) : BitVec 32)).toNat = b.val * 4096 + (l (ix1 b)).toNat - 1 := by
  obtain ⟨h1, h2⟩ := hl (ix1 b)
  have e : (k0_pay1 (F := F) l (ix1 b) : BitVec 32) = lane4096 (ix1 b) + l (ix1 b) - 1#32 := rfl
  have hb := b.isLt
  have hm := lane4096_val b
  rw [e]
  generalize l (ix1 b) = w at h1 h2 ⊢
  generalize lane4096 (ix1 b) = z at hm ⊢
  have hz : (z + w).toNat = b.val * 4096 + w.toNat := by
    rw [BitVec.toNat_add, hm, Nat.mod_eq_of_lt (show b.val * 4096 + w.toNat < 2 ^ 32 by omega)]
  rw [BitVec.toNat_sub_of_le (by rw [BitVec.le_def, hz]; show 1 ≤ _; omega), hz]
  rfl

end Cert.Proof.Finals

end
-- ==== Proof.Gathered.lean ====
/-
  What the kernel's two indirect gathers deliver: eight of the sixteen rows each.
-/
module

public import proofs.«01_k».proof.Proof.Finals
public import Idealize.ShloMosaic.Lib.SparseCore.Stream

@[expose] public section

noncomputable section

namespace Cert.Proof.Gathered

open Cert.KernelIdeal Cert.KernelIdeal.Gen Cert.Proof.Steps Cert.Proof.Contents Cert.Proof.Finals
open Idealize.ShloMosaic Idealize.SL.Sem
open Idealize.ShloMosaic.ValueIdx

variable {F : FTy → Type} [FloatOps F] [Named F]

local notation "xV" => (Memref.whole Cert.KernelIdeal.main_v0_scv : Memref Cert.KernelIdeal.sig Kind.scVector Space.hbm Cert.KernelIdeal.S65536x2x128 EltTy.f32)
local notation "iV" => (Memref.whole Cert.KernelIdeal.cc0_scratch1 : Memref Cert.KernelIdeal.sig Kind.scVector Space.vmem Cert.KernelIdeal.S16 EltTy.i32)
local notation "rV" => (Memref.whole Cert.KernelIdeal.cc0_scratch2 : Memref Cert.KernelIdeal.sig Kind.scVector Space.vmem Cert.KernelIdeal.S16x2x128 EltTy.f32)

/-- The whole payload, eight rows from row `o` of the row scratch, and eight words from word `o` of the word scratch. -/
abbrev xAll : Memref sig .scVector .hbm S65536x2x128 .f32 :=
  (xV).slice (Rect.unit (s := S65536x2x128) ![0, 0, 0] S65536x2x128.size inb_S65536x2x128_S65536x2x128_0_0_0) (fun _ => rfl)
abbrev rHalf (o : ℕ) (h : ∀ a, (![o, 0, 0] : Fin 3 → ℕ) a + S8x2x128.size a ≤ S16x2x128.size a) : Memref sig .scVector .vmem S8x2x128 .f32 :=
  (rV).slice (Rect.unit (s := S16x2x128) ![o, 0, 0] S8x2x128.size h) (fun _ => rfl)
abbrev iHalf (o : ℕ) (h : ∀ a, (![o] : Fin 1 → ℕ) a + S8.size a ≤ S16.size a) : Memref sig .scVector .vmem S8 .i32 :=
  (iV).slice (Rect.unit (s := S16) ![o] S8.size h) (fun _ => rfl)

/-- Word `k` of eight, in row-major order. -/
theorem rowMajor_S8 (k : Fin 8) : (S8.rowMajor.symm k : S8.Idx) = ix1 k := by
  have h : ∀ k : Fin 8, (S8.rowMajor (ix1 k)).val = k.val := by decide +kernel
  exact (Equiv.symm_apply_eq S8.rowMajor).mpr (Fin.ext (h k).symm)

/-- The words a gather reads name rows of the payload. -/
theorem words_in (l : IVec S16 32) (hl : ∀ b, 1 ≤ (l b).toNat ∧ (l b).toNat ≤ 4096) (o : ℕ)
    (h : ∀ a, (![o] : Fin 1 → ℕ) a + S8.size a ≤ S16.size a) :
    ∀ x, ((iHalf o h).view.read (Elt F) (k0_pay1 (F := F) l) x).toNat < S65536x2x128.size gathers_S65536x2x128_S8x2x128.axis := by
  have hw : ∀ y : S16.Idx, (k0_pay1 (F := F) l y : BitVec 32).toNat < 65536 := by
    intro y
    have e : ∀ b : Fin 16, (k0_pay1 (F := F) l (ix1 b) : BitVec 32).toNat < 65536 := by
      intro b
      rw [word_pay1 l hl b]
      have := (hl (ix1 b)).2
      have := b.isLt
      omega
    exact (congrArg (fun y : S16.Idx => (k0_pay1 (F := F) l y : BitVec 32).toNat < 65536) (eq_ix1 y)).mpr (e (y 0))
  intro x
  exact hw _

/-- A gather into eight rows from row `o`, by the eight words from word `o`, leaves rows `o .. o + 7` of the sixteen. -/
theorem gathered (x : FVec F S65536x2x128 .f32) (l : IVec S16 32) (hl : ∀ b, 1 ≤ (l b).toNat ∧ (l b).toNat ≤ 4096)
    (o : ℕ) (h : ∀ a, (![o, 0, 0] : Fin 3 → ℕ) a + S8x2x128.size a ≤ S16x2x128.size a)
    (h' : ∀ a, (![o] : Fin 1 → ℕ) a + S8.size a ≤ S16.size a) (fd : FVec F S16x2x128 .f32)
    (hn : S8.numel = S8x2x128.size gathers_S65536x2x128_S8x2x128.axis')
    (hin : ∀ x, ((iHalf o h').view.read (Elt F) (k0_pay1 (F := F) l) x).toNat < S65536x2x128.size gathers_S65536x2x128_S8x2x128.axis) :
    ∀ j ∈ (rHalf o h).view.set,
      (rHalf o h).view.write (Elt F) fd (SparseCore.gatherPayload gathers_S65536x2x128_S8x2x128 ((xAll).view.read (Elt F) x)
        (SparseCore.rows ((iHalf o h').view.read (Elt F) (k0_pay1 (F := F) l)) hn hin)) Finset.univ j = rowsF x l j := by
  intro j hj
  obtain ⟨i, -, rfl⟩ := Finset.mem_map.mp hj
  refine (View.write_emb_of_mem _ _ (Finset.mem_univ i)).trans ?_
  have ho : o + 8 ≤ 16 := h' 0
  have hi0 : (i 0).val < 8 := (i 0).isLt
  show x _ = x _
  refine congrArg x ?_
  funext a
  match a with
  | 0 =>
    apply Fin.ext
    have hy : ((iHalf o h').view.emb (S8.rowMajor.symm (i 0)) : S16.Idx) = ix1 (⟨o + 1 * (i 0).val, by omega⟩ : Fin 16) := by
      rw [show (S8.rowMajor.symm (i 0) : S8.Idx) = ix1 (i 0) from rowMajor_S8 (i 0)]
      funext a
      match a with
      | 0 => rfl
    have hlt := hin (S8.rowMajor.symm (i 0))
    have e : ((iHalf o h').view.read (Elt F) (k0_pay1 (F := F) l) (S8.rowMajor.symm (i 0)) : BitVec 32)
        = k0_pay1 (F := F) l (ix1 (⟨o + 1 * (i 0).val, by omega⟩ : Fin 16)) := congrArg (k0_pay1 (F := F) l) hy
    show 0 + 1 * ((iHalf o h').view.read (Elt F) (k0_pay1 (F := F) l) (S8.rowMajor.symm (i 0)) : BitVec 32).toNat
      = (k0_pay1 (F := F) l (ix1 (⟨o + 1 * (i 0).val, _⟩ : Fin 16)) : BitVec 32).toNat % 65536
    rw [Nat.zero_add, Nat.one_mul, Nat.mod_eq_of_lt (e ▸ hlt), e]
  | 1 =>
    apply Fin.ext
    show 0 + 1 * (i 1).val = 0 + 1 * (i 1).val
    rfl
  | 2 =>
    apply Fin.ext
    show 0 + 1 * (i 2).val = 0 + 1 * (i 2).val
    rfl

end Cert.Proof.Gathered

end
-- ==== Proof.Regions.lean ====
/-
  The parts of the scratch buffers and of the result that the kernel's transfers and copies touch, as sets of elements.
-/
module

public import proofs.«01_k».proof.Proof.Gathered

@[expose] public section

noncomputable section

namespace Cert.Proof.Regions

open Cert.KernelIdeal Cert.KernelIdeal.Gen Cert.Proof.Steps Cert.Proof.Gathered
open Idealize.ShloMosaic Idealize.SL.Sem
open Idealize.ShloMosaic.ValueIdx

local notation "iV" => (Memref.whole Cert.KernelIdeal.cc0_scratch1 : Memref Cert.KernelIdeal.sig Kind.scVector Space.vmem Cert.KernelIdeal.S16 EltTy.i32)
local notation "rV" => (Memref.whole Cert.KernelIdeal.cc0_scratch2 : Memref Cert.KernelIdeal.sig Kind.scVector Space.vmem Cert.KernelIdeal.S16x2x128 EltTy.f32)
local notation "bV" => (Memref.whole Cert.KernelIdeal.cc0_scratch3 : Memref Cert.KernelIdeal.sig Kind.scVector Space.vmem Cert.KernelIdeal.S4128 EltTy.f32)
local notation "oV" => (Memref.whole Cert.KernelIdeal.main_v1_scv : Memref Cert.KernelIdeal.sig Kind.scVector Space.hbm Cert.KernelIdeal.S4128 EltTy.f32)

/-- Half of the output scratch, and half of the result, from element `o`. -/
abbrev bHalf (o : ℕ) (h : ∀ a, (![o] : Fin 1 → ℕ) a + S2064.size a ≤ S4128.size a) : Memref sig .scVector .vmem S2064 .f32 :=
  (bV).slice (Rect.unit (s := S4128) ![o] S2064.size h) (fun _ => rfl)
abbrev oHalf (o : ℕ) (h : ∀ a, (![o] : Fin 1 → ℕ) a + S2064.size a ≤ S4128.size a) : Memref sig .scVector .hbm S2064 .f32 :=
  (oV).slice (Rect.unit (s := S4128) ![o] S2064.size h) (fun _ => rfl)

/-- The gathers' source is the whole payload. -/
theorem xAll_set : (xAll).view.set = Finset.univ := by
  show ((View.whole (main_v0_scv : Ref sig .scVector)).slice _).set = _
  rw [View.set_slice_whole]
  ext j
  simp only [Finset.mem_univ, iff_true]
  refine Rect.mem_set_unit.mpr fun a => ?_
  match a with
  | 0 => exact ⟨Nat.zero_le _, by have : (j 0).val < 65536 := (j 0).isLt; show (j 0).val < 0 + 65536; omega⟩
  | 1 => exact ⟨Nat.zero_le _, by have : (j 1).val < 2 := (j 1).isLt; show (j 1).val < 0 + 2; omega⟩
  | 2 => exact ⟨Nat.zero_le _, by have : (j 2).val < 128 := (j 2).isLt; show (j 2).val < 0 + 128; omega⟩

theorem mem_rHalf (o : ℕ) (h : ∀ a, (![o, 0, 0] : Fin 3 → ℕ) a + S8x2x128.size a ≤ S16x2x128.size a) (j : S16x2x128.Idx) :
    j ∈ (rHalf o h).view.set ↔ o ≤ (j 0).val ∧ (j 0).val < o + 8 := by
  show j ∈ ((View.whole (cc0_scratch2 : Ref sig .scVector)).slice (Rect.unit (s := S16x2x128) ![o, 0, 0] S8x2x128.size h)).set ↔ _
  rw [View.set_slice_whole]
  refine Rect.mem_set_unit.trans ⟨fun e => e 0, fun e a => ?_⟩
  match a with
  | 0 => exact e
  | 1 => exact ⟨Nat.zero_le _, by have : (j 1).val < 2 := (j 1).isLt; show (j 1).val < 0 + 2; omega⟩
  | 2 => exact ⟨Nat.zero_le _, by have : (j 2).val < 128 := (j 2).isLt; show (j 2).val < 0 + 128; omega⟩

theorem mem_iHalf (o : ℕ) (h : ∀ a, (![o] : Fin 1 → ℕ) a + S8.size a ≤ S16.size a) (j : S16.Idx) :
    j ∈ (iHalf o h).view.set ↔ o ≤ (j 0).val ∧ (j 0).val < o + 8 := by
  show j ∈ ((View.whole (cc0_scratch1 : Ref sig .scVector)).slice (Rect.unit (s := S16) ![o] S8.size h)).set ↔ _
  rw [View.set_slice_whole]
  refine Rect.mem_set_unit.trans ⟨fun e => e 0, fun e a => ?_⟩
  match a with
  | 0 => exact e

theorem mem_bHalf (o : ℕ) (h : ∀ a, (![o] : Fin 1 → ℕ) a + S2064.size a ≤ S4128.size a) (j : S4128.Idx) :
    j ∈ (bHalf o h).view.set ↔ o ≤ (j 0).val ∧ (j 0).val < o + 2064 := by
  show j ∈ ((View.whole (cc0_scratch3 : Ref sig .scVector)).slice (Rect.unit (s := S4128) ![o] S2064.size h)).set ↔ _
  rw [View.set_slice_whole]
  refine Rect.mem_set_unit.trans ⟨fun e => e 0, fun e a => ?_⟩
  match a with
  | 0 => exact e

theorem mem_oHalf (o : ℕ) (h : ∀ a, (![o] : Fin 1 → ℕ) a + S2064.size a ≤ S4128.size a) (j : S4128.Idx) :
    j ∈ (oHalf o h).view.set ↔ o ≤ (j 0).val ∧ (j 0).val < o + 2064 := by
  show j ∈ ((View.whole (main_v1_scv : Ref sig .scVector)).slice (Rect.unit (s := S4128) ![o] S2064.size h)).set ↔ _
  rw [View.set_slice_whole]
  refine Rect.mem_set_unit.trans ⟨fun e => e 0, fun e a => ?_⟩
  match a with
  | 0 => exact e

/-- Each second half is the first's complement. -/
theorem rHalf_compl : Finset.univ \ (rHalf 0 inb_S16x2x128_S8x2x128_0_0_0).view.set = (rHalf 8 inb_S16x2x128_S8x2x128_8_0_0).view.set := by
  refine Finset.ext fun (j : S16x2x128.Idx) => ?_
  rw [Finset.mem_sdiff]
  rw [show (j ∈ (rHalf 0 inb_S16x2x128_S8x2x128_0_0_0).view.set) = _ from propext (mem_rHalf 0 _ j),
    show (j ∈ (rHalf 8 inb_S16x2x128_S8x2x128_8_0_0).view.set) = _ from propext (mem_rHalf 8 _ j)]
  have : (j 0).val < 16 := (j 0).isLt
  simp only [Finset.mem_univ, true_and]; omega

theorem iHalf_compl : Finset.univ \ (iHalf 0 inb_S16_S8_0).view.set = (iHalf 8 inb_S16_S8_8).view.set := by
  refine Finset.ext fun (j : S16.Idx) => ?_
  rw [Finset.mem_sdiff]
  rw [show (j ∈ (iHalf 0 inb_S16_S8_0).view.set) = _ from propext (mem_iHalf 0 _ j),
    show (j ∈ (iHalf 8 inb_S16_S8_8).view.set) = _ from propext (mem_iHalf 8 _ j)]
  have : (j 0).val < 16 := (j 0).isLt
  simp only [Finset.mem_univ, true_and]; omega

theorem bHalf_compl : Finset.univ \ (bHalf 0 inb_S4128_S2064_0).view.set = (bHalf 2064 inb_S4128_S2064_2064).view.set := by
  refine Finset.ext fun (j : S4128.Idx) => ?_
  rw [Finset.mem_sdiff]
  rw [show (j ∈ (bHalf 0 inb_S4128_S2064_0).view.set) = _ from propext (mem_bHalf 0 _ j),
    show (j ∈ (bHalf 2064 inb_S4128_S2064_2064).view.set) = _ from propext (mem_bHalf 2064 _ j)]
  have : (j 0).val < 4128 := (j 0).isLt
  simp only [Finset.mem_univ, true_and]; omega

theorem oHalf_compl : Finset.univ \ (oHalf 0 inb_S4128_S2064_0).view.set = (oHalf 2064 inb_S4128_S2064_2064).view.set := by
  refine Finset.ext fun (j : S4128.Idx) => ?_
  rw [Finset.mem_sdiff]
  rw [show (j ∈ (oHalf 0 inb_S4128_S2064_0).view.set) = _ from propext (mem_oHalf 0 _ j),
    show (j ∈ (oHalf 2064 inb_S4128_S2064_2064).view.set) = _ from propext (mem_oHalf 2064 _ j)]
  have : (j 0).val < 4128 := (j 0).isLt
  simp only [Finset.mem_univ, true_and]; omega

theorem mem_src (k : ℕ) (j : S16x2x128.Idx) (hj : j ∈ ((rV).access (srcRect k)).set) : (j 0).val = k / 16 % 16 := by
  have h : j ∈ ((View.whole (cc0_scratch2 : Ref sig .scVector)).slice (srcRect k)).set := hj
  rw [View.set_slice_whole] at h
  have e := (Rect.mem_set_unit.mp h) 0
  have h1 : k / 16 % 16 ≤ (j 0).val := e.1
  have h2 : (j 0).val < k / 16 % 16 + 1 := e.2
  omega

theorem mem_dst (k : ℕ) (j : S4128.Idx) (hj : j ∈ ((bV).access (dstRect k)).set) :
    k / 16 % 16 * 258 ≤ (j 0).val ∧ (j 0).val < k / 16 % 16 * 258 + 256 := by
  have h : j ∈ ((View.whole (cc0_scratch3 : Ref sig .scVector)).slice (dstRect k)).set := hj
  rw [View.set_slice_whole] at h
  have e := (Rect.mem_set_unit.mp h) 0
  have h1 : k / 16 % 16 * 258 + k % 16 * 16 ≤ (j 0).val := e.1
  have h2 : (j 0).val < k / 16 % 16 * 258 + k % 16 * 16 + 16 := e.2
  omega

/-- The first 128 copies read rows 0..7, the others rows 8..15, and write the second half of the output scratch. -/
theorem src_lo (k : ℕ) (hk : k < 128) : ((rV).access (srcRect k)).set ⊆ (rHalf 0 inb_S16x2x128_S8x2x128_0_0_0).view.set :=
  fun (j : S16x2x128.Idx) hj => (mem_rHalf 0 _ j).mpr (by have := mem_src k j hj; omega)
theorem src_hi (k : ℕ) (h1 : 128 ≤ k) (h2 : k < 256) : ((rV).access (srcRect k)).set ⊆ (rHalf 8 inb_S16x2x128_S8x2x128_8_0_0).view.set :=
  fun (j : S16x2x128.Idx) hj => (mem_rHalf 8 _ j).mpr (by have := mem_src k j hj; omega)
theorem dst_hi (k : ℕ) (h1 : 128 ≤ k) (h2 : k < 256) : ((bV).access (dstRect k)).set ⊆ (bHalf 2064 inb_S4128_S2064_2064).view.set :=
  fun (j : S4128.Idx) hj => (mem_bHalf 2064 _ j).mpr (by have := mem_dst k j hj; omega)

end Cert.Proof.Regions

end
-- ==== Proof.Tile.lean ====
/-
  The kernel's body on the one vector subcore it runs on: from the payload, the lengths and the result's buffer to the
  result's contents as `Finals.outF` says, both inputs unchanged.
-/
module

public import proofs.«01_k».proof.Proof.Unroll
public import proofs.«01_k».proof.Proof.Copies
public import proofs.«01_k».proof.Proof.Regions
public import Idealize.ShloMosaic.Lib.VecWindow
public import Idealize.ShloMosaic.Lib.SparseCore.Quiescent
public import Idealize.ShloMosaic.Lib.SparseCore.Ops
public import Idealize.ShloMosaic.Lib.SparseCore.Stream
public import Idealize.ShloMosaic.Lib.Pipeline.Kit
public import Idealize.ShloMosaic.Lib.Tactic

@[expose] public section

noncomputable section

namespace Cert.Proof.Tile

open Cert.KernelIdeal Cert.KernelIdeal.Gen
open Cert.Proof.Steps Cert.Proof.Contents Cert.Proof.Finals Cert.Proof.Gathered Cert.Proof.Regions
open Cert.Proof.Copies (UH UU 𝒱₀ cV jV wp_copies)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

local notation "𝕄" => MT nD τ sig (HIx 1) (Elt F) ℕ UU ℕ

abbrev xLoc (d : Dev nD) : Loc nD τ sig := (SparseCore.T d).loc main_v0
abbrev lLoc (d : Dev nD) : Loc nD τ sig := (SparseCore.T d).loc main_arg1
abbrev oLoc (d : Dev nD) : Loc nD τ sig := (SparseCore.T d).loc main_v1

local notation "xV" => (Memref.whole Cert.KernelIdeal.main_v0_scv : Memref Cert.KernelIdeal.sig Kind.scVector Space.hbm Cert.KernelIdeal.S65536x2x128 EltTy.f32)
local notation "lV" => (Memref.whole Cert.KernelIdeal.main_arg1_scv : Memref Cert.KernelIdeal.sig Kind.scVector Space.hbm Cert.KernelIdeal.S16 EltTy.i32)
local notation "oV" => (Memref.whole Cert.KernelIdeal.main_v1_scv : Memref Cert.KernelIdeal.sig Kind.scVector Space.hbm Cert.KernelIdeal.S4128 EltTy.f32)
local notation "sV" => (Memref.whole Cert.KernelIdeal.cc0_scratch0 : Memref Cert.KernelIdeal.sig Kind.scVector Space.vmem Cert.KernelIdeal.S16 EltTy.i32)
local notation "iV" => (Memref.whole Cert.KernelIdeal.cc0_scratch1 : Memref Cert.KernelIdeal.sig Kind.scVector Space.vmem Cert.KernelIdeal.S16 EltTy.i32)
local notation "rV" => (Memref.whole Cert.KernelIdeal.cc0_scratch2 : Memref Cert.KernelIdeal.sig Kind.scVector Space.vmem Cert.KernelIdeal.S16x2x128 EltTy.f32)
local notation "bV" => (Memref.whole Cert.KernelIdeal.cc0_scratch3 : Memref Cert.KernelIdeal.sig Kind.scVector Space.vmem Cert.KernelIdeal.S4128 EltTy.f32)

variable (d : Dev nD) (L : grid0.Coords)

theorem pts_xV (q : PosShare TreeShare) (f : Buf (Elt F) (xLoc d)) :
    ((xV).view.loc (V d (cV L) (jV L)) ↦{q} f : sProp 𝕄) = xLoc d ↦{q} f := rfl
theorem pts_lV (q : PosShare TreeShare) (f : Buf (Elt F) (lLoc d)) :
    ((lV).view.loc (V d (cV L) (jV L)) ↦{q} f : sProp 𝕄) = lLoc d ↦{q} f := rfl
theorem pts_oV (q : PosShare TreeShare) (f : Buf (Elt F) (oLoc d)) :
    ((oV).view.loc (V d (cV L) (jV L)) ↦{q} f : sProp 𝕄) = oLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_iV (f : Buf (Elt F) ((V d (cV L) (jV L)).loc cc0_scratch1)) :
    ((iV).view.loc (V d (cV L) (jV L)) ↦{fullShare} f : sProp 𝕄) = (V d (cV L) (jV L)).loc cc0_scratch1 ↦{fullShare} f := rfl
theorem pts_rV (f : Buf (Elt F) ((V d (cV L) (jV L)).loc cc0_scratch2)) :
    ((rV).view.loc (V d (cV L) (jV L)) ↦{fullShare} f : sProp 𝕄) = (V d (cV L) (jV L)).loc cc0_scratch2 ↦{fullShare} f := rfl
theorem pts_bV (f : Buf (Elt F) ((V d (cV L) (jV L)).loc cc0_scratch3)) :
    ((bV).view.loc (V d (cV L) (jV L)) ↦{fullShare} f : sProp 𝕄) = (V d (cV L) (jV L)).loc cc0_scratch3 ↦{fullShare} f := rfl

/-- The subcore's five DMA semaphores: the two gathers', the two write-outs', the fetch's. -/
abbrev cell (s : DmaSems sig S_) : GSem nD τ sig := (V d (cV L) (jV L), .dma s.sem)

theorem ownSems0_V :
    (ownSems0 (V d (cV L) (jV L)) : sProp 𝕄)
      = iprop(semVal (cell d L cc0_scratch4) 0 ∗ semVal (cell d L cc0_scratch5) 0 ∗ semVal (cell d L cc0_scratch6) 0
          ∗ semVal (cell d L cc0_scratch7) 0 ∗ semVal (cell d L cc0_scoped0) 0
          ∗ bigSep ((((((ownCells (V d (cV L) (jV L))).erase (cell d L cc0_scratch4)).erase (cell d L cc0_scratch5)).erase (cell d L cc0_scratch6)).erase
              (cell d L cc0_scratch7)).erase (cell d L cc0_scoped0)) fun g => semVal g 0) := by
  have hm : ∀ s : DmaSems sig S_, (SemLoc.dma s.sem : SemLoc sig).isScoped .scVector = true → cell d L s ∈ ownCells (V d (cV L) (jV L)) :=
    fun s h => (mem_ownCells (g := cell d L s)).mpr ⟨rfl, h⟩
  have hne : ∀ s t : DmaSems sig S_, (SemLoc.dma s.sem : SemLoc sig) ≠ .dma t.sem → cell d L s ≠ cell d L t :=
    fun s t h e => h (congrArg Prod.snd e)
  unfold SparseCore.Cfg.ownSems0
  rw [SparseCore.bigSep_erase' (hm cc0_scratch4 (by decide)),
    SparseCore.bigSep_erase' (Finset.mem_erase.mpr ⟨hne cc0_scratch5 cc0_scratch4 (by decide), hm cc0_scratch5 (by decide)⟩),
    SparseCore.bigSep_erase' (Finset.mem_erase.mpr ⟨hne cc0_scratch6 cc0_scratch5 (by decide),
      Finset.mem_erase.mpr ⟨hne cc0_scratch6 cc0_scratch4 (by decide), hm cc0_scratch6 (by decide)⟩⟩),
    SparseCore.bigSep_erase' (Finset.mem_erase.mpr ⟨hne cc0_scratch7 cc0_scratch6 (by decide), Finset.mem_erase.mpr ⟨hne cc0_scratch7 cc0_scratch5 (by decide),
      Finset.mem_erase.mpr ⟨hne cc0_scratch7 cc0_scratch4 (by decide), hm cc0_scratch7 (by decide)⟩⟩⟩),
    SparseCore.bigSep_erase' (Finset.mem_erase.mpr ⟨hne cc0_scoped0 cc0_scratch7 (by decide), Finset.mem_erase.mpr ⟨hne cc0_scoped0 cc0_scratch6 (by decide),
      Finset.mem_erase.mpr ⟨hne cc0_scoped0 cc0_scratch5 (by decide), Finset.mem_erase.mpr ⟨hne cc0_scoped0 cc0_scratch4 (by decide), hm cc0_scoped0 (by decide)⟩⟩⟩⟩)]

/-- The four scratch buffers are among the subcore's own: they are them, at some contents, and the rest. -/
abbrev dref (b : Ref sig .scVector) : DevRef τ sig := (Proc.scVector (cV L) (jV L)).devRef b

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase (dref L cc0_scratch0)).erase (dref L cc0_scratch1)).erase (dref L cc0_scratch2)).erase
              (dref L cc0_scratch3))
              fun b => iprop(∃ f, ((d, b) : Loc nD τ sig) ↦{fullShare} f)) := by
  have hm : ∀ b : Ref sig .scVector, (dref L b).owner = .proc (Proc.scVector (cV L) (jV L)) → dref L b ∈ ownRefs (τ := τ) (.scVector (cV L) (jV L)) :=
    fun b h => SparseCore.Cfg.mem_ownRefs_of_owner (p := Proc.scVector (cV L) (jV L)) h
  have hne : ∀ b b' : Ref sig .scVector, b ≠ b' → dref L b ≠ dref L b' := fun b b' h e => h (Proc.devRef_injective _ e)
  unfold SparseCore.Cfg.ownBufs
  refine (SparseCore.bigSep_erase' (hm cc0_scratch0 rfl)).trans ?_
  rw [SparseCore.bigSep_erase' (Finset.mem_erase.mpr ⟨hne cc0_scratch1 cc0_scratch0 (by decide), hm cc0_scratch1 rfl⟩),
    SparseCore.bigSep_erase' (Finset.mem_erase.mpr ⟨hne cc0_scratch2 cc0_scratch1 (by decide),
      Finset.mem_erase.mpr ⟨hne cc0_scratch2 cc0_scratch0 (by decide), hm cc0_scratch2 rfl⟩⟩),
    SparseCore.bigSep_erase' (Finset.mem_erase.mpr ⟨hne cc0_scratch3 cc0_scratch2 (by decide), Finset.mem_erase.mpr ⟨hne cc0_scratch3 cc0_scratch1 (by decide),
      Finset.mem_erase.mpr ⟨hne cc0_scratch3 cc0_scratch0 (by decide), hm cc0_scratch3 rfl⟩⟩⟩)]

/-- The payload (as rows of two rows of 128), the lengths and the result's buffer, whole, at given contents. -/
abbrev xPts (x : Buf (Elt F) (xLoc d)) : sProp 𝕄 := xLoc d ↦{fullShare} x
abbrev lPts (l : Buf (Elt F) (lLoc d)) : sProp 𝕄 := lLoc d ↦{fullShare} l
abbrev oPts (o : Buf (Elt F) (oLoc d)) : sProp 𝕄 := oLoc d ↦{fullShare} o

/-- The word scratch, in two halves. -/
theorem halves_i (f : Buf (Elt F) ((iV).view.loc (V d (cV L) (jV L)))) :
    ((iV).view.loc (V d (cV L) (jV L)) ↦{fullShare} f : sProp 𝕄)
      = iprop(((iHalf 0 inb_S16_S8_0).view.loc (V d (cV L) (jV L)) ↦[(iHalf 0 inb_S16_S8_0).view.set]{fullShare} f)
          ∗ ((iHalf 8 inb_S16_S8_8).view.loc (V d (cV L) (jV L)) ↦[(iHalf 8 inb_S16_S8_8).view.set]{fullShare} f)) := by
  have h := BI.Entails.antisymm (pointsTo_split_subset (Ix := HIx 1) (Name := ℕ) (U := UU) (Lvl := ℕ) (ℓ := (iV).view.loc (V d (cV L) (jV L))) (q := fullShare) (f := f) (S := Finset.univ)
    (Finset.subset_univ (iHalf 0 inb_S16_S8_0).view.set)).1 (pointsTo_split_subset (Finset.subset_univ (iHalf 0 inb_S16_S8_0).view.set)).2
  rw [iHalf_compl] at h
  exact h
/-- The row scratch, in two halves. -/
theorem halves_r (f : Buf (Elt F) ((rV).view.loc (V d (cV L) (jV L)))) :
    ((rV).view.loc (V d (cV L) (jV L)) ↦{fullShare} f : sProp 𝕄)
      = iprop(((rHalf 0 inb_S16x2x128_S8x2x128_0_0_0).view.loc (V d (cV L) (jV L)) ↦[(rHalf 0 inb_S16x2x128_S8x2x128_0_0_0).view.set]{fullShare} f)
          ∗ ((rHalf 8 inb_S16x2x128_S8x2x128_8_0_0).view.loc (V d (cV L) (jV L)) ↦[(rHalf 8 inb_S16x2x128_S8x2x128_8_0_0).view.set]{fullShare} f)) := by
  have h := BI.Entails.antisymm (pointsTo_split_subset (Ix := HIx 1) (Name := ℕ) (U := UU) (Lvl := ℕ) (ℓ := (rV).view.loc (V d (cV L) (jV L))) (q := fullShare) (f := f) (S := Finset.univ)
    (Finset.subset_univ (rHalf 0 inb_S16x2x128_S8x2x128_0_0_0).view.set)).1 (pointsTo_split_subset (Finset.subset_univ (rHalf 0 inb_S16x2x128_S8x2x128_0_0_0).view.set)).2
  rw [rHalf_compl] at h
  exact h
/-- The output scratch, in two halves. -/
theorem halves_b (f : Buf (Elt F) ((bV).view.loc (V d (cV L) (jV L)))) :
    ((bV).view.loc (V d (cV L) (jV L)) ↦{fullShare} f : sProp 𝕄)
      = iprop(((bHalf 0 inb_S4128_S2064_0).view.loc (V d (cV L) (jV L)) ↦[(bHalf 0 inb_S4128_S2064_0).view.set]{fullShare} f)
          ∗ ((bHalf 2064 inb_S4128_S2064_2064).view.loc (V d (cV L) (jV L)) ↦[(bHalf 2064 inb_S4128_S2064_2064).view.set]{fullShare} f)) := by
  have h := BI.Entails.antisymm (pointsTo_split_subset (Ix := HIx 1) (Name := ℕ) (U := UU) (Lvl := ℕ) (ℓ := (bV).view.loc (V d (cV L) (jV L))) (q := fullShare) (f := f) (S := Finset.univ)
    (Finset.subset_univ (bHalf 0 inb_S4128_S2064_0).view.set)).1 (pointsTo_split_subset (Finset.subset_univ (bHalf 0 inb_S4128_S2064_0).view.set)).2
  rw [bHalf_compl] at h
  exact h
/-- The result, in two halves. -/
theorem halves_o (f : Buf (Elt F) ((oV).view.loc (V d (cV L) (jV L)))) :
    ((oV).view.loc (V d (cV L) (jV L)) ↦{fullShare} f : sProp 𝕄)
      = iprop(((oHalf 0 inb_S4128_S2064_0).view.loc (V d (cV L) (jV L)) ↦[(oHalf 0 inb_S4128_S2064_0).view.set]{fullShare} f)
          ∗ ((oHalf 2064 inb_S4128_S2064_2064).view.loc (V d (cV L) (jV L)) ↦[(oHalf 2064 inb_S4128_S2064_2064).view.set]{fullShare} f)) := by
  have h := BI.Entails.antisymm (pointsTo_split_subset (Ix := HIx 1) (Name := ℕ) (U := UU) (Lvl := ℕ) (ℓ := (oV).view.loc (V d (cV L) (jV L))) (q := fullShare) (f := f) (S := Finset.univ)
    (Finset.subset_univ (oHalf 0 inb_S4128_S2064_0).view.set)).1 (pointsTo_split_subset (Finset.subset_univ (oHalf 0 inb_S4128_S2064_0).view.set)).2
  rw [oHalf_compl] at h
  exact h
/-- The payload, whole, as two shares of what the gathers read. -/
theorem halves_x (f : Buf (Elt F) ((xV).view.loc (V d (cV L) (jV L)))) :
    ((xV).view.loc (V d (cV L) (jV L)) ↦{fullShare} f : sProp 𝕄)
      = iprop(((xAll).view.loc (V d (cV L) (jV L)) ↦[(xAll).view.set]{fullShare.left} f)
          ∗ ((xAll).view.loc (V d (cV L) (jV L)) ↦[(xAll).view.set]{fullShare.right} f)) := by
  rw [xAll_set]
  exact BI.Entails.antisymm (pointsTo_share (PosShare.mem_left_op_right fullShare)).1 (pointsTo_share (PosShare.mem_left_op_right fullShare)).2

/-- A scatter into the output scratch, held whole. -/
theorem wp_scatter (idx : IVec S16 32) (v : FVec F S16 .f32) (h : ∀ a x, ((![idx] : Fin 1 → IVec S16 32) a x).toNat < S4128.size a)
    (hs : ((bV).access (.whole S4128)).Stores Finset.univ) (k : PUnit → TP F L PUnit) (Q : PUnit → sProp 𝕄) (f : FVec F S4128 .f32) :
    ((bV).view.loc (V d (cV L) (jV L)) ↦{fullShare} f)
      ⊢ iprop((((bV).view.loc (V d (cV L) (jV L)) ↦{fullShare} storeIdx (s := S4128) (d := ![16]) (e := .f32) f ![idx] v (fun _ => 1#1) false h)
          -∗ wp frame (wpE (defs₀ (F := F)) 𝒱₀ (V d (cV L) (jV L)) none) Set.univ (k ⟨⟩) Q)
        -∗ wp frame (wpE (defs₀ (F := F)) 𝒱₀ (V d (cV L) (jV L)) none) Set.univ
            (SparseCore.vectorStoreIdx bV ![idx] v (fun _ => 1#1) false h hs >>= k) Q) := by
  have e := SparseCore.wp_vectorStoreIdx (defs := defs₀ (F := F)) 𝒱₀ (V d (cV L) (jV L)) none Set.univ (Q := Q) (base := bV) (d := ![16])
    (idxs := ![idx]) (v := v) (mask := fun _ => 1#1) (add := false) (h := h) (hs := hs) (k := k) (f := f)
  rw [Memref.set_access_whole, Memref.read_access_whole, Memref.write_access_whole_univ] at e
  exact e

/-- The output scratch after the two scatters, before any copy; after the copies of rows 0..7, its halves; after the
    others, its second half. -/
theorem pts_scattered (x : FVec F S65536x2x128 .f32) (l : IVec S16 32) (f : FVec F S4128 .f32) :
    ((bV).view.loc (V d (cV L) (jV L)) ↦{fullShare} storeIdx (s := S4128) (d := ![16]) (e := .f32)
        (storeIdx (s := S4128) (d := ![16]) (e := .f32) f ![k0_pay3] (k0_pay4 (F := F) l) (fun _ => 1#1) false chk_pay3)
        ![k0_pay5] (lastF (F := F) l) (fun _ => 1#1) false chk_pay5 : sProp 𝕄)
      = ((bV).view.loc (V d (cV L) (jV L)) ↦{fullShare} placed (rowsF x l) (scattered l f) 0) := by
  rw [placed_zero]; rfl
theorem pts_placed_lo (x : FVec F S65536x2x128 .f32) (l : IVec S16 32) (f : FVec F S4128 .f32) :
    ((bV).view.loc (V d (cV L) (jV L)) ↦{fullShare} placed (rowsF x l) (scattered l f) (0 + 128) : sProp 𝕄)
      = iprop(((bHalf 0 inb_S4128_S2064_0).view.loc (V d (cV L) (jV L)) ↦[(bHalf 0 inb_S4128_S2064_0).view.set]{fullShare} outF x l)
          ∗ ((bV).view.loc (V d (cV L) (jV L)) ↦[(bHalf 2064 inb_S4128_S2064_2064).view.set]{fullShare} placed (rowsF x l) (scattered l f) 128)) := by
  rw [halves_b, pointsTo_congr (g := outF x l) fun (j : S4128.Idx) hj => placed_scattered x l f _ j (by have := (mem_bHalf 0 _ j).mp hj; omega)]
theorem pts_placed_hi (x : FVec F S65536x2x128 .f32) (l : IVec S16 32) (f : FVec F S4128 .f32) :
    ((bV).view.loc (V d (cV L) (jV L)) ↦[(bHalf 2064 inb_S4128_S2064_2064).view.set]{fullShare} placed (rowsF x l) (scattered l f) (128 + 128) : sProp 𝕄)
      = ((bHalf 2064 inb_S4128_S2064_2064).view.loc (V d (cV L) (jV L)) ↦[(bHalf 2064 inb_S4128_S2064_2064).view.set]{fullShare} outF x l) :=
  pointsTo_congr fun (j : S4128.Idx) hj => placed_scattered x l f _ j (by have : (j 0).val < 4128 := (j 0).isLt; omega)

/-- The second half of the padded output, under a name of its own until its write-out is issued. -/
def oRest (f : Buf (Elt F) ((oV).view.loc (V d (cV L) (jV L)))) : sProp 𝕄 :=
  (oHalf 2064 inb_S4128_S2064_2064).view.loc (V d (cV L) (jV L)) ↦[(oHalf 2064 inb_S4128_S2064_2064).view.set]{fullShare} f
theorem oRest_eq (f : Buf (Elt F) ((oV).view.loc (V d (cV L) (jV L)))) : oRest d L f =
  ((oHalf 2064 inb_S4128_S2064_2064).view.loc (V d (cV L) (jV L)) ↦[(oHalf 2064 inb_S4128_S2064_2064).view.set]{fullShare} f : sProp 𝕄) := rfl
theorem halves_o' (f : Buf (Elt F) ((oV).view.loc (V d (cV L) (jV L)))) :
    ((oV).view.loc (V d (cV L) (jV L)) ↦{fullShare} f : sProp 𝕄)
      = iprop(((oHalf 0 inb_S4128_S2064_0).view.loc (V d (cV L) (jV L)) ↦[(oHalf 0 inb_S4128_S2064_0).view.set]{fullShare} f) ∗ oRest d L f) :=
  halves_o d L f

/-- A half of the result written with the same half of the output scratch holds that half's final contents. -/
theorem written (g : FVec F S4128 .f32) (fo : FVec F S4128 .f32) (o : ℕ) (h : ∀ a, (![o] : Fin 1 → ℕ) a + S2064.size a ≤ S4128.size a) :
    ∀ j ∈ (oHalf o h).view.set, (oHalf o h).view.writes (Elt F) fo [⟨Rect.whole S2064, (bHalf o h).view.read (Elt F) g⟩] j = g j := by
  intro j hj
  obtain ⟨i, -, rfl⟩ := Finset.mem_map.mp hj
  rw [← View.write_univ_eq_writes_whole, View.writes_nil]
  exact View.write_emb_of_mem _ _ (Finset.mem_univ i)

/-- The result's two halves, each written from the output scratch, are the result at its final contents. -/
theorem join_o (g fo : FVec F S4128 .f32) (p0 p1 : S2064.Idx → Elt F .f32)
    (h0 : p0 = (bHalf 0 inb_S4128_S2064_0).view.read (Elt F) g) (h1 : p1 = (bHalf 2064 inb_S4128_S2064_2064).view.read (Elt F) g) :
    iprop(((oHalf 0 inb_S4128_S2064_0).view.loc (V d (cV L) (jV L)) ↦[(oHalf 0 inb_S4128_S2064_0).view.set]{fullShare}
          (oHalf 0 inb_S4128_S2064_0).view.writes (Elt F) fo [⟨Rect.whole S2064, p0⟩])
        ∗ ((oHalf 2064 inb_S4128_S2064_2064).view.loc (V d (cV L) (jV L)) ↦[(oHalf 2064 inb_S4128_S2064_2064).view.set]{fullShare}
          (oHalf 2064 inb_S4128_S2064_2064).view.writes (Elt F) fo [⟨Rect.whole S2064, p1⟩]))
      ⊢ (oPts d g : sProp 𝕄) := by
  subst h0 h1
  refine (BI.sep_mono (Entails.of_eq (pointsTo_congr (written (F := F) g fo 0 inb_S4128_S2064_0)))
    (Entails.of_eq (pointsTo_congr (written (F := F) g fo 2064 inb_S4128_S2064_2064)))).trans ?_
  exact (Entails.of_eq (halves_o (F := F) d L g).symm).trans (Entails.of_eq (pts_oV (F := F) d L _ _))

attribute [local irreducible] copies

set_option maxHeartbeats 400000 in
theorem tile_body (hF : (K (F := F)).Facts) (x : Buf (Elt F) (xLoc d)) (l : Buf (Elt F) (lLoc d)) (fo : Buf (Elt F) (oLoc d))
    (hl : ∀ b : S16.Idx, 1 ≤ (l b : BitVec 32).toNat ∧ (l b : BitVec 32).toNat ≤ 4096)
    (O : CellTallies nD τ sig (HIx 1)) (W : Waits sig (HIx 1)) (hO : ∀ g, O g none = 0) :
    iprop(levAts (K (F := F)).L (K (F := F)).lev ∗ emp
        ∗ (xPts d x ∗ lPts d l ∗ oPts d fo)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__encode L xV (Memref.isWhole_whole _) lV (Memref.isWhole_whole _) oV (Memref.isWhole_whole _)
            sV (Memref.isWhole_whole _) iV (Memref.isWhole_whole _) rV (Memref.isWhole_whole _) bV (Memref.isWhole_whole _)
            cc0_scratch4 cc0_scratch5 cc0_scratch6 cc0_scratch7 cc0_scoped0)
          fun _ => iprop((xPts d x ∗ lPts d l ∗ oPts d (outF (F := F) x l : FVec F S4128 .f32))
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [encode_eq]; unfold Steps.body k0_part1_skel
  rw [(K (F := F)).scopedBufs_V hF d (cV L) (jV L), SparseCore.Cfg.scopedSems0_V (Val := Elt F) d (cV L) (jV L), ownSems0_V, ownBufs_V]
  iintro ⟨#Hlv, -, ⟨Hx, Hl, Ho⟩, ⟨⟨%fs, Hs⟩, ⟨%fi, Hi⟩, ⟨%fr, Hr⟩, ⟨%fb, Hb⟩, Hbufs⟩, ⟨Hg0, Hg1, Ho0, Ho1, Hf, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_xV (F := F) d L _ _).symm) $$ Hx
  ihave Hl' := (Entails.of_eq (pts_lV (F := F) d L _ _).symm) $$ Hl
  ihave Ho' := (Entails.of_eq (pts_oV (F := F) d L _ _).symm) $$ Ho
  ihave Hs' := (Entails.of_eq (pts_sV (F := F) d L _).symm) $$ Hs
  ihave Hi' := (Entails.of_eq (pts_iV (F := F) d L _).symm) $$ Hi
  ihave Hr' := (Entails.of_eq (pts_rV (F := F) d L _).symm) $$ Hr
  ihave Hb' := (Entails.of_eq (pts_bV (F := F) d L _).symm) $$ Hb
  sl_exec
  have hv0 : View.readAt (Elt F) (sV).view (Rect.unit (s := S16) ![0] S16.size inb_S16_S16_0).toLoadRect
      (View.write (Elt F) (sV).view fs (tile_body.sl.dma0 d l) Finset.univ) = l := by
    unfold tile_body.sl.dma0
    exact (Memref.readAt_unit_zero (Elt F) cc0_scratch0 (funext fun a => match a with | 0 => rfl) inb_S16_S16_0 _).trans (View.write_whole_univ _ _ _)
  have hi : (iV).view.writes (Elt F) (iV).view.junk (tile_body.sl.Hi'_1 d L l fs) = k0_pay1 (F := F) l := by
    unfold tile_body.sl.Hi'_1
    rw [hv0]
    exact View.read_writes_full (Val := Elt F) (iV).view (iV).view.junk (off := ![0]) inb_S16_S16_0 (k0_pay1 (F := F) l) []
  simp only [hv0]
  ihave Hi2 := (Entails.of_eq (show ((iV).view.loc (V d (cV L) (jV L)) ↦{fullShare} (iV).view.writes (Elt F) (iV).view.junk (tile_body.sl.Hi'_1 d L l fs) : sProp 𝕄)
      = _ from (congrArg (fun f => ((iV).view.loc (V d (cV L) (jV L)) ↦{fullShare} f : sProp 𝕄)) hi).trans (halves_i d L _))) $$ Hi'
  icases Hi2 with ⟨Hi0, Hi8⟩
  ihave Hr2 := (Entails.of_eq (halves_r (F := F) d L fr)) $$ Hr'
  icases Hr2 with ⟨Hr0, Hr8⟩
  ihave Hx2 := (Entails.of_eq (halves_x (F := F) d L x)) $$ Hx'
  icases Hx2 with ⟨Hx0, Hx8⟩
  have hN : ∀ h : S65536x2x128.Gathers 0 S8x2x128, ∑ j, ((rHalf 0 inb_S16x2x128_S8x2x128_0_0_0).slice (S8x2x128.rowRect h.axis' j) (S8x2x128.stride_rowRect h.axis' j)).view.dmaCredit
      = (rHalf 0 inb_S16x2x128_S8x2x128_0_0_0).view.dmaCredit := by decide
  have hN8 : ∀ h : S65536x2x128.Gathers 0 S8x2x128, ∑ j, ((rHalf 8 inb_S16x2x128_S8x2x128_8_0_0).slice (S8x2x128.rowRect h.axis' j) (S8x2x128.stride_rowRect h.axis' j)).view.dmaCredit
      = (rHalf 8 inb_S16x2x128_S8x2x128_8_0_0).view.dmaCredit := by decide
  iapply (SparseCore.wp_indirectGatherLocal countersEmb 𝒱₀ (V d (cV L) (jV L)) none (hg := gathers_S65536x2x128_S8x2x128) (default : HIx 1)
      (rHalf 0 inb_S16x2x128_S8x2x128_0_0_0).view.dmaCredit (hN _) (by decide) (words_in (F := F) l hl 0 inb_S16_S8_0)) $$ [Hx0 Hr0 Hi0 Hg0]
  · isplitl [Hx0]; · iexact Hx0
    isplitl [Hr0]; · iexact Hr0
    isplitl [Hi0]; · iexact Hi0
    iexact Hg0
  iintro Hfl0
  sl_exec
  iapply (SparseCore.wp_indirectGatherLocal countersEmb 𝒱₀ (V d (cV L) (jV L)) none (hg := gathers_S65536x2x128_S8x2x128) (default : HIx 1)
      (rHalf 8 inb_S16x2x128_S8x2x128_8_0_0).view.dmaCredit (hN8 _) (by decide) (words_in (F := F) l hl 8 inb_S16_S8_8)) $$ [Hx8 Hr8 Hi8 Hg1]
  · isplitl [Hx8]; · iexact Hx8
    isplitl [Hr8]; · iexact Hr8
    isplitl [Hi8]; · iexact Hi8
    iexact Hg1
  iintro Hfl8
  sl_exec
  simp only [bind_assoc, pure_bind]
  iapply (wp_scatter d L k0_pay3 (k0_pay4 (F := F) l) chk_pay3) $$ Hb'
  iintro Hb'
  iapply (wp_assume 𝒱₀ (V d (cV L) (jV L)) none Set.univ chk_pay5)
  iapply (wp_scatter d L k0_pay5 (lastF (F := F) l) chk_pay5) $$ Hb'
  iintro Hb'
  iapply (Transfers.wp_waitLocalO countersEmb 𝒱₀ (V d (cV L) (jV L)) none (default : HIx 1) (rfl : (rHalf 0 inb_S16x2x128_S8x2x128_0_0_0).view.dmaCredit = _)) $$ [Hfl0 HO]
  · isplitl [Hfl0]; · iexact Hfl0
    isplitl [HO]; · iexact HO
    iapply (Transfers.MayWaits.elim (SemLoc.dma cc0_scratch4.sem)) $$ Hmw
  iintro ⟨⟨Hr0, Hx0, Hi0⟩, Hg0, HO⟩
  ihave Hr0' := (Entails.of_eq (pointsTo_congr (gathered (F := F) x l hl 0 inb_S16x2x128_S8x2x128_0_0_0 inb_S16_S8_0 fr rfl (words_in (F := F) l hl 0 inb_S16_S8_0)))) $$ Hr0
  ihave Hb2 := (Entails.of_eq (pts_scattered (F := F) d L x l fb)) $$ Hb'
  iapply (wp_copies d L (rowsF (F := F) x l) (scattered l fb) fullShare (rHalf 0 inb_S16x2x128_S8x2x128_0_0_0).view.set Finset.univ _ _ 128 0 (by omega)
    (fun k _ h => src_lo k (by omega)) (fun _ _ _ => Finset.subset_univ _)) $$ [Hr0' Hb2]
  · isplitl [Hr0']; · iexact Hr0'
    iexact Hb2
  iintro ⟨Hr0, Hb'⟩
  ihave Hb2 := (Entails.of_eq (pts_placed_lo (F := F) d L x l fb)) $$ Hb'
  icases Hb2 with ⟨Hb0, Hb1⟩
  ihave Ho2 := (Entails.of_eq (halves_o' (F := F) d L fo)) $$ Ho'
  icases Ho2 with ⟨Hout0, Hrest⟩
  sl_exec
  iapply (Transfers.wp_waitLocalO countersEmb 𝒱₀ (V d (cV L) (jV L)) none (default : HIx 1) (rfl : (rHalf 8 inb_S16x2x128_S8x2x128_8_0_0).view.dmaCredit = _)) $$ [Hfl8 HO]
  · isplitl [Hfl8]; · iexact Hfl8
    isplitl [HO]; · iexact HO
    iapply (Transfers.MayWaits.elim (SemLoc.dma cc0_scratch5.sem)) $$ Hmw
  iintro ⟨⟨Hr8, Hx8, Hi8⟩, Hg1, HO⟩
  ihave Hr8' := (Entails.of_eq (pointsTo_congr (gathered (F := F) x l hl 8 inb_S16x2x128_S8x2x128_8_0_0 inb_S16_S8_8 fr rfl (words_in (F := F) l hl 8 inb_S16_S8_8)))) $$ Hr8
  simp only [wp_ret, fupd_wp_eq]
  iapply (wp_copies d L (rowsF (F := F) x l) (scattered l fb) fullShare (rHalf 8 inb_S16x2x128_S8x2x128_8_0_0).view.set
    (bHalf 2064 inb_S4128_S2064_2064).view.set _ _ 128 128 (by omega)
    (fun k h1 h2 => src_hi k h1 (by omega)) (fun k h1 h2 => dst_hi k h1 (by omega))) $$ [Hr8' Hb1]
  · isplitl [Hr8']; · iexact Hr8'
    iexact Hb1
  iintro ⟨Hr8, Hb1⟩
  ihave Hb1' := (Entails.of_eq (pts_placed_hi (F := F) d L x l fb)) $$ Hb1
  ihave Hout1 := (Entails.of_eq (oRest_eq (F := F) d L fo)) $$ Hrest
  sl_exec
  sl_step
  isplitl [Hx0 Hx8 Hl' Hout0 Hout1]
  · isplitl [Hx0 Hx8]
    · iapply (Entails.of_eq ((halves_x (F := F) d L x).symm.trans (pts_xV (F := F) d L _ _)))
      isplitl [Hx0]; · iexact Hx0
      iexact Hx8
    isplitl [Hl']; · iapply (Entails.of_eq (pts_lV (F := F) d L _ _)); iexact Hl'
    iapply (join_o (F := F) d L (outF x l) fo (tile_body.sl.dma0_1 d x l) (tile_body.sl.dma0_2 d x l) rfl rfl)
    isplitl [Hout0]; · iexact Hout0
    iexact Hout1
  isplitl [Hs' Hi0 Hi8 Hr0 Hr8 Hb0 Hb1' Hbufs]
  · isplitl [Hs']; · iexists _; iexact Hs'
    isplitl [Hi0 Hi8]
    · iexists _
      iapply (Entails.of_eq ((halves_i (F := F) d L (k0_pay1 (F := F) l)).symm.trans (pts_iV (F := F) d L _)))
      isplitl [Hi0]; · iexact Hi0
      iexact Hi8
    isplitl [Hr0 Hr8]
    · iexists _
      iapply (Entails.of_eq ((halves_r (F := F) d L (rowsF (F := F) x l)).symm.trans (pts_rV (F := F) d L _)))
      isplitl [Hr0]; · iexact Hr0
      iexact Hr8
    isplitl [Hb0 Hb1']
    · iexists _
      iapply (Entails.of_eq ((halves_b (F := F) d L (outF (F := F) x l)).symm.trans (pts_bV (F := F) d L _)))
      isplitl [Hb0]; · iexact Hb0
      iexact Hb1'
    iexact Hbufs
  isplitl [Hg0 Hg1 Ho0 Ho1 Hf Hsems]
  · isplitl [Hg0]; · iexact Hg0
    isplitl [Hg1]; · iexact Hg1
    isplitl [Ho0]; · iexact Ho0
    isplitl [Ho1]; · iexact Ho1
    isplitl [Hf]; · iexact Hf
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Cert.Proof.Tile

end
-- ==== Proof.Run.lean ====
/-
  The whole program's run, over any float values: the payload regrouped, the call on one vector subcore, the result
  regrouped. From lengths between 1 and 4096 it ends with the result at `resF`, both arguments unchanged and every
  semaphore counter at zero.
-/
module

public import proofs.«01_k».proof.Proof.Tile
public import Idealize.ShloMosaic.Lib.StableHlo.Run

@[expose] public section

noncomputable section

namespace Cert.Proof.Run

open Cert.KernelIdeal Cert.KernelIdeal.Gen
open Cert.Proof.Finals Cert.Proof.Tile
open Cert.Proof.Copies (UH UU 𝒱₀ cV jV)

open Idealize.ShloMosaic
open Idealize.ShloMosaic.SparseCore (S V T)
open Idealize.ShloMosaic.SparseCore.Cfg (HIx Pay)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "xV" => (Memref.whole Cert.KernelIdeal.main_v0_scv : Memref Cert.KernelIdeal.sig Kind.scVector Space.hbm Cert.KernelIdeal.S65536x2x128 EltTy.f32)
local notation "lV" => (Memref.whole Cert.KernelIdeal.main_arg1_scv : Memref Cert.KernelIdeal.sig Kind.scVector Space.hbm Cert.KernelIdeal.S16 EltTy.i32)
local notation "oV" => (Memref.whole Cert.KernelIdeal.main_v1_scv : Memref Cert.KernelIdeal.sig Kind.scVector Space.hbm Cert.KernelIdeal.S4128 EltTy.f32)
local notation "sV" => (Memref.whole Cert.KernelIdeal.cc0_scratch0 : Memref Cert.KernelIdeal.sig Kind.scVector Space.vmem Cert.KernelIdeal.S16 EltTy.i32)
local notation "iV" => (Memref.whole Cert.KernelIdeal.cc0_scratch1 : Memref Cert.KernelIdeal.sig Kind.scVector Space.vmem Cert.KernelIdeal.S16 EltTy.i32)
local notation "rV" => (Memref.whole Cert.KernelIdeal.cc0_scratch2 : Memref Cert.KernelIdeal.sig Kind.scVector Space.vmem Cert.KernelIdeal.S16x2x128 EltTy.f32)
local notation "bV" => (Memref.whole Cert.KernelIdeal.cc0_scratch3 : Memref Cert.KernelIdeal.sig Kind.scVector Space.vmem Cert.KernelIdeal.S4128 EltTy.f32)

abbrev EH : Emb UH (MT nD τ sig (HIx 1) (Elt F) ℕ UU ℕ) := embL

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-- The payload's and the result's buffers. -/
abbrev aLoc (d : Dev nD) : Loc nD τ sig := (SparseCore.T d).loc main_arg0
abbrev yLoc (d : Dev nD) : Loc nD τ sig := (SparseCore.T d).loc main_v2

/-- The payload regrouped as rows of two rows of 128; the padded result; the result. -/
def xF (a : FVec F S16x4096x256 .f32) : FVec F S65536x2x128 .f32 := shapeCast S65536x2x128 a shapeCasts_S16x4096x256_S65536x2x128
def resF (a : FVec F S16x4096x256 .f32) (l : IVec S16 32) : FVec F S16x258 .f32 :=
  shapeCast S16x258 (outF (F := F) (xF a) l : FVec F S4128 .f32) shapeCasts_S4128_S16x258

abbrev xM (d : Dev nD) : Buf (Elt F) (xLoc d) := (xF (F := F) (m (aLoc d)) : FVec F S65536x2x128 .f32)
abbrev oM (d : Dev nD) : Buf (Elt F) (oLoc d) := (outF (F := F) (xM m d) (m (lLoc d)) : FVec F S4128 .f32)
abbrev yM (d : Dev nD) : Buf (Elt F) (yLoc d) := (resF (F := F) (m (aLoc d)) (m (lLoc d)) : FVec F S16x258 .f32)

/-- What the call takes and what it brings back, all of it handed to the one task. -/
abbrev goPts (d : Dev nD) : sProp 𝕄 := iprop(xPts d (xM m d) ∗ lPts d (m (lLoc d)) ∗ oPts d (m (oLoc d)))
abbrev tdPts (d : Dev nD) : sProp 𝕄 := iprop(xPts d (xM m d) ∗ lPts d (m (lLoc d)) ∗ oPts d (oM m d))

def P : (K (F := F)).Pay (nD := nD) (Val := Elt F) (Name := ℕ) (U := UU) where
  st := fun q d _ => match q with | 0 => goPts m d
  dn := fun q d _ => match q with | 0 => tdPts m d
  go := fun q d _ _ => match q with | 0 => goPts m d
  td := fun q d _ _ => match q with | 0 => tdPts m d
  x := fun _ _ => iprop(emp)

instance P_storable : (P (F := F) m).IsStorable where
  st q d _ := match q with
    | 0 => (inferInstance : BI.Storable (upEmb : UEmb _ 𝕄) (goPts m d))
  dn q d _ := match q with
    | 0 => (inferInstance : BI.Storable (upEmb : UEmb _ 𝕄) (tdPts m d))
  go q d _ _ := match q with
    | 0 => (inferInstance : BI.Storable (upEmb : UEmb _ 𝕄) (goPts m d))
  td q d _ _ := match q with
    | 0 => (inferInstance : BI.Storable (upEmb : UEmb _ 𝕄) (tdPts m d))

/-- What the run asks of the launch memory: every length names a row. -/
def PreOK : Prop := ∀ (d : Dev nD) (b : S16.Idx), 1 ≤ (m (lLoc d) b : BitVec 32).toNat ∧ (m (lLoc d) b : BitVec 32).toNat ≤ 4096

/-! ## The task -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__encode (coordsV c s)
          xV (Memref.isWhole_whole _) lV (Memref.isWhole_whole _) oV (Memref.isWhole_whole _)
          sV (Memref.isWhole_whole _) iV (Memref.isWhole_whole _) rV (Memref.isWhole_whole _) bV (Memref.isWhole_whole _)
          cc0_scratch4 cc0_scratch5 cc0_scratch6 cc0_scratch7 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (xM m d) (m (lLoc d)) (m (oLoc d)) (hpre d) O W hO).trans (wp_mono frame _ _ fun _ => obl_post)

/-- The one task takes everything the call takes and brings back everything the call brings back. -/
theorem vecSplit : (K (F := F)).VecSplit' (P m) 0 := by
  intro d c
  show goPts m d ⊢ |={Set.univ}=> iprop(
      (bigSep Finset.univ fun _ : Fin ((K (F := F)).nSub 0) => goPts m d)
      ∗ ((bigSep Finset.univ fun _ : Fin ((K (F := F)).nSub 0) => tdPts m d) -∗ tdPts m d))
  rw [show (bigSep Finset.univ fun _ : Fin ((K (F := F)).nSub 0) => goPts m d) = goPts m d from bigSep_univ_of_subsingleton (0 : Fin 1),
    show (bigSep Finset.univ fun _ : Fin ((K (F := F)).nSub 0) => tdPts m d) = tdPts m d from bigSep_univ_of_subsingleton (0 : Fin 1)]
  iintro H; imodintro
  isplitl [H]; · iexact H
  iintro H; iexact H

/-! ## The launch's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev l' : DevRef τ sig := Proc.devRef .tc (main_arg1 : Ref sig .tc)
abbrev x' : DevRef τ sig := Proc.devRef .tc (main_v0 : Ref sig .tc)
abbrev o' : DevRef τ sig := Proc.devRef .tc (main_v1 : Ref sig .tc)
abbrev y' : DevRef τ sig := Proc.devRef .tc (main_v2 : Ref sig .tc)
abbrev opIn : HloOp τ sig (Elt F) := StableHlo.reshape main_arg0 main_v0 (rfl : (.f32 : EltTy) = .f32) shapeCasts_S16x4096x256_S65536x2x128
abbrev opOut : HloOp τ sig (Elt F) := StableHlo.reshape main_v1 main_v2 (rfl : (.f32 : EltTy) = .f32) shapeCasts_S4128_S16x258

/-- The TensorCore's arrays: the payload, the lengths, the payload regrouped, the padded result, the result. -/
abbrev S5 : Finset (DevRef τ sig) := {a', l', x', o', y'}

theorem held_S5 (d : Dev nD) (W : Valuation τ sig (Elt F)) :
    (held (T d) S5 W : sProp 𝕄)
      = iprop((aLoc d ↦{fullShare} W a') ∗ (lLoc d ↦{fullShare} W l') ∗ (xLoc d ↦{fullShare} W x') ∗ (oLoc d ↦{fullShare} W o') ∗ yLoc d ↦{fullShare} W y') := by
  unfold held S5
  rw [SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (lLoc d ↦{fullShare} W main_arg1) ∗ (xLoc d ↦{fullShare} W main_v0)
          ∗ (oLoc d ↦{fullShare} W main_v1) ∗ yLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The arrays' contents at the launch, before the call, and after it. -/
def V0 (d : Dev nD) : Valuation τ sig (Elt F) := fun b => m (d, b)
def V1 (d : Dev nD) : Valuation τ sig (Elt F) := (opIn (F := F)).result (V0 m d)
def V2 (d : Dev nD) : Valuation τ sig (Elt F) := Function.update (V1 m d) o' (oM m d)

theorem unscoped_held (d : Dev nD) : (unscopedBufs d (fun b => m ((SparseCore.T d).loc b)) : sProp 𝕄) = held (T d) S5 (V0 m d) := by
  rw [unscopedBufs_eq, held_S5]; rfl

theorem V1_ne (d : Dev nD) (b : DevRef τ sig) (h : b ≠ x') : V1 m d b = m (d, b) :=
  (opIn (F := F)).result_of_not_mem _ (show b ∉ ({x'} : Finset (DevRef τ sig)) from fun h' => h (Finset.mem_singleton.mp h'))
theorem V1_x (d : Dev nD) : V1 m d x' = xM m d := StableHlo.reshape_result (Val := Elt F) main_arg0 main_v0 rfl shapeCasts_S16x4096x256_S65536x2x128 _ _ (V0 m d)
theorem V2_o (d : Dev nD) : V2 m d o' = oM m d := Function.update_self _ _ _
theorem V2_ne (d : Dev nD) (b : DevRef τ sig) (h : b ≠ o') : V2 m d b = V1 m d b := Function.update_of_ne h _ _

/-- The five arrays before the call, and at the end. -/
theorem held_V1 (d : Dev nD) :
    (held (T d) S5 ((opIn (F := F)).result (V0 m d)) : sProp 𝕄)
      = iprop((aLoc d ↦{fullShare} m (aLoc d)) ∗ lPts d (m (lLoc d)) ∗ xPts d (xM m d) ∗ oPts d (m (oLoc d)) ∗ yLoc d ↦{fullShare} m (yLoc d)) := by
  show held (SparseCore.T d) S5 (V1 m d) = _
  rw [held_S5, V1_x, V1_ne m d a' (by decide), V1_ne m d l' (by decide), V1_ne m d o' (by decide), V1_ne m d y' (by decide)]
theorem held_V2 (d : Dev nD) :
    (held (T d) S5 (V2 m d) : sProp 𝕄)
      = iprop((aLoc d ↦{fullShare} m (aLoc d)) ∗ lPts d (m (lLoc d)) ∗ xPts d (xM m d) ∗ oPts d (oM m d) ∗ yLoc d ↦{fullShare} m (yLoc d)) := by
  rw [held_S5, V2_o, V2_ne m d a' (by decide), V2_ne m d l' (by decide), V2_ne m d x' (by decide), V2_ne m d y' (by decide),
    V1_x, V1_ne m d a' (by decide), V1_ne m d l' (by decide), V1_ne m d y' (by decide)]
theorem out_ne (d : Dev nD) (b : DevRef τ sig) (h : b ≠ y') : (opOut (F := F)).result (V2 m d) b = V2 m d b :=
  (opOut (F := F)).result_of_not_mem _ (show b ∉ ({y'} : Finset (DevRef τ sig)) from fun h' => h (Finset.mem_singleton.mp h'))
theorem out_y (d : Dev nD) : (opOut (F := F)).result (V2 m d) y' = yM m d :=
  (StableHlo.reshape_result (Val := Elt F) main_v1 main_v2 rfl shapeCasts_S4128_S16x258 _ _ (V2 m d)).trans (by rw [V2_o]; rfl)
theorem held_V3 (d : Dev nD) :
    (held (T d) S5 ((opOut (F := F)).result (V2 m d)) : sProp 𝕄)
      = iprop((aLoc d ↦{fullShare} m (aLoc d)) ∗ lPts d (m (lLoc d)) ∗ xPts d (xM m d) ∗ oPts d (oM m d) ∗ yLoc d ↦{fullShare} yM m d) := by
  rw [held_S5, out_y, out_ne m d a' (by decide), out_ne m d l' (by decide), out_ne m d x' (by decide), out_ne m d o' (by decide),
    V2_o, V2_ne m d a' (by decide), V2_ne m d l' (by decide), V2_ne m d x' (by decide),
    V1_x, V1_ne m d a' (by decide), V1_ne m d l' (by decide)]

theorem st0_eq (d : Dev nD) : (bigSep Finset.univ fun c : Fin ((K (F := F)).nCore 0) => (P m).st 0 d c) = goPts m d :=
  bigSep_univ_of_subsingleton (0 : Fin 1)
theorem dn0_eq (d : Dev nD) : (bigSep Finset.univ fun c : Fin ((K (F := F)).nCore 0) => (P m).dn 0 d c) = tdPts m d :=
  bigSep_univ_of_subsingleton (0 : Fin 1)

theorem hIn : (opIn (F := F)).bufs ⊆ S5 := show ({a', x'} : Finset (DevRef τ sig)) ⊆ S5 by decide
theorem hOut : (opOut (F := F)).bufs ⊆ S5 := show ({o', y'} : Finset (DevRef τ sig)) ⊆ S5 by decide

/-- What @main leaves the claims: both arguments at their launch contents, the result at `yM`. -/
abbrev FIN (d : Dev nD) : sProp 𝕄 := iprop((aLoc d ↦{fullShare} m (aLoc d)) ∗ lPts d (m (lLoc d)) ∗ yLoc d ↦{fullShare} yM m d)

/-- @main on a device's TensorCore: the payload regrouped, the call, the result regrouped. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S5) hIn (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Ha, Hl, Hx, Ho, Hy⟩
  iapply ((K (F := F)).wp_run (D (F := F)) 𝒱 (EH := EH) (P := P m) κ d 0) $$ [Hst Hx Hl Ho Hb Ha Hy Hts]
  isplitr; · iexact Hctx
  isplitl [Hst]; · iexact Hst
  isplitl [Hx Hl Ho]
  · rw [st0_eq]
    isplitl [Hx]; · iexact Hx
    isplitl [Hl]; · iexact Hl
    iexact Ho
  iintro ⟨Hst, Hdn⟩
  ihave Hdn' := (Entails.of_eq (dn0_eq m d)) $$ Hdn
  icases Hdn' with ⟨Hx, Hl, Ho⟩
  iapply (wp_hlo_within 𝒱 (SparseCore.T d) none Set.univ (op := opOut) (S := S5) hOut (V := V2 m d)) $$ [Hb Ha Hl Hx Ho Hy]
  · isplitl [Hb]; · iexact Hb
    rw [held_V2]
    isplitl [Ha]; · iexact Ha
    isplitl [Hl]; · iexact Hl
    isplitl [Hx]; · iexact Hx
    isplitl [Ho]; · iexact Ho
    iexact Hy
  iintro ⟨Hb, Hheld⟩
  ihave Hh := (Entails.of_eq (held_V3 (F := F) m d)) $$ Hheld
  icases Hh with ⟨Ha, Hl, -, -, Hy⟩
  rw [wp_ret]; imodintro; imodintro
  isplitl [Hst]; · iexact Hst
  isplitr [Hb Hts]
  · isplitl [Ha]; · iexact Ha
    isplitl [Hl]; · iexact Hl
    iexact Hy
  isplitl [Hb] <;> iassumption

/-- What the claims read of a device's final memory. -/
def fq (d : Dev nD) (s' : Phys nD τ sig (Elt F)) : Prop :=
  s'.mem.mem (yLoc d) = yM m d ∧ s'.mem.mem (aLoc d) = m (aLoc d) ∧ s'.mem.mem (lLoc d) = m (lLoc d)

set_option maxRecDepth 16384 in
theorem hfin (d : Dev nD) (s' : Phys nD τ sig (Elt F)) : iprop(FIN m d ∗ SI s') ⊢ (⌜fq m d s'⌝ : sProp 𝕄) := by
  iintro ⟨⟨Ha, Hl, Hy⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (persistent_entails_right (SI_pointsTo_agree (st := s') (ℓ := lLoc d) (I := Finset.univ) (q := fullShare) (f := m (lLoc d)))) $$ [HSI Hl]
  · isplitl [HSI] <;> iassumption
  icases H with ⟨%h2, HSI, -⟩
  ihave H := (SI_pointsTo_agree (st := s') (ℓ := yLoc d) (I := Finset.univ) (q := fullShare) (f := yM m d)) $$ [HSI Hy]
  · isplitl [HSI] <;> iassumption
  icases H with %h3
  ipureintro
  exact ⟨funext fun i => h3 i (Finset.mem_univ i), funext fun i => h1 i (Finset.mem_univ i), funext fun i => h2 i (Finset.mem_univ i)⟩

/-! ## The run -/

def QC : PUnit × MemSt nD τ sig (Elt F) → Prop := fun r =>
  (∀ c : Dev nD, r.2.mem (yLoc c) = yM m c ∧ r.2.mem (aLoc c) = m (aLoc c) ∧ r.2.mem (lLoc c) = m (lLoc c)) ∧ r.2.sem = fun _ => 0

/-- The program's run: the result is `resF` of the arguments, which end unchanged; every counter ends at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Run

end
-- ==== Proof.Same.lean ====
/-
  At bit-level floats the kernel and its idealized form are one program: a named constant, read at the bits it was
  printed with, is the constant the kernel has there.
-/
module

public import proofs.«01_k».proof.Defs
public import proofs.«01_k».proof.Proof.Gen.Kernel
public import proofs.«01_k».proof.Proof.Gen.KernelIdeal

@[expose] public section

noncomputable section

namespace Cert.Proof.Same

open Idealize.ShloMosaic Idealize.SL.Sem

/-- A named constant at bit-level floats: the float its bits are. -/
@[reducible] def namedBits : Named Bits := ⟨fun _ _ {_} b => Scalar.ofBits _ b⟩

set_option maxRecDepth 65536 in
set_option maxHeartbeats 1000000 in
/-- The kernel's definitions are the idealized kernel's, read at bit-level floats. -/
theorem defs_eq : Cert.Kernel.defs (F := Bits) = letI := namedBits; Cert.KernelIdeal.defs (F := Bits) := rfl

set_option maxRecDepth 65536 in
set_option maxHeartbeats 1000000 in
/-- The kernel's threads are the idealized kernel's, read at bit-level floats. -/
theorem threads_eq : Cert.Kernel.threads (F := Bits) = letI := namedBits; Cert.KernelIdeal.threads (F := Bits) := rfl

end Cert.Proof.Same

end
-- ==== Proof.Claims.lean ====
/-
  The claims about running: the lengths' range read off the precondition, the kernel's and its idealized form's frames,
  the reference's, and what the two named constants denote.
-/
module

public import proofs.«01_k».proof.Proof.Run
public import proofs.«01_k».proof.Proof.Same
public import proofs.«01_k».proof.Proof.Gen.Pre_in_range
public import proofs.«01_k».proof.Proof.Gen.ReferenceIdeal.Run
public import Idealize.ShloMosaic.Lib.ReduceAll
public import Idealize.ShloMosaic.Adequacy
public import Idealize.ShloMosaic.Init

@[expose] public section

noncomputable section

namespace Cert.Proof.Claims

open Idealize.ShloMosaic Idealize.SL.Sem

/-- A signed word between 1 and 4096, by the two comparisons and their conjunction: its value lies between them. -/
theorem word_range (v : BitVec 32) (e : IntOp.andi (IntOp.cmpi .sge v 1#32) (IntOp.cmpi .sle v 4096#32) = 1#1) :
    1 ≤ v.toNat ∧ v.toNat ≤ 4096 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  simp only [IntOp.cmpi, hand, hone, Bool.and_eq_true, BitVec.sle_eq_decide, BitVec.slt_eq_decide,
    decide_eq_true_eq, BitVec.toInt_eq_toNat_cond, BitVec.toNat_ofNat, Nat.reducePow, Nat.reduceMod] at e
  have := v.isLt
  omega

/-- The precondition's function at an argument pair, all ones: every length lies between 1 and 4096. -/
theorem range_of_fn {F : FTy → Type} [FloatOps F] (x : FVec F Cert.Pre_in_range.S16x4096x256 .f32)
    (l : IVec Cert.Pre_in_range.S16 32)
    (h : letI := Cert.Pre_in_range.Gen.facts; Cert.Pre_in_range.fn x l = fun _ => 1#1) (b : Cert.Pre_in_range.S16.Idx) :
    1 ≤ (l b).toNat ∧ (l b).toNat ≤ 4096 := by
  have e := Host.reduce_andi_all _ _ _ _ _ (congrFun h (fun a => a.elim0)) b
  exact word_range _ e

/-- The kernel, at bit-level floats, from lengths in range: it ends, its arguments unchanged and every semaphore counter
    at zero. -/
theorem frame_p : letI := Cert.Kernel.Gen.facts; letI := Cert.Pre_in_range.Gen.facts; Cert.quiescent_Kernel := by
  intro m ρ hpre
  letI := Same.namedBits
  rw [Same.defs_eq, Same.threads_eq]
  exact (θ_run _ _ _).mono (fun _ h => ⟨fun c => (h.1 c).2, h.2⟩) (Run.run_main (F := Bits) m ρ (fun d b => range_of_fn _ _ (hpre d) b))

/-- The same of its idealized form, floats being extended reals. -/
theorem frame_pi : letI := Cert.KernelIdeal.Gen.facts; letI := Cert.Pre_in_range.Gen.facts; Cert.quiescent_KernelIdeal := by
  intro m ρ hpre
  exact (θ_run _ _ _).mono (fun _ h => ⟨fun c => (h.1 c).2, h.2⟩) (Run.run_main (F := Ideal) m ρ (fun d b => range_of_fn _ _ (hpre d) b))

/-- The same of the reference, which has no semaphore. -/
theorem frame_ri : letI := Cert.ReferenceIdeal.Gen.facts; letI := Cert.Pre_in_range.Gen.facts; Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The two named constants: 1/200 and the natural logarithm of 200. -/
theorem preserves : Cert.preserves_Kernel_KernelIdeal :=
  ⟨IdealRules.named_const.statement Cert.KernelIdeal.κ "inv200" .f32 0x3BA3D70A#32 ((1 / 200 : ℝ) : EReal) rfl,
    IdealRules.named_const.statement Cert.KernelIdeal.κ "log200" .f32 0x40A98BD1#32 ((Real.log 200 : ℝ) : EReal) rfl⟩

end Cert.Proof.Claims

end
-- ==== Proof.Layout.lean ====
/-
  The kernel's result read at a row and a column: the payload's element at the row's last position, the length over 200,
  or the last column.
-/
module

public import proofs.«01_k».proof.Proof.Run

@[expose] public section

noncomputable section

namespace Cert.Proof.Layout

open Cert.KernelIdeal Cert.KernelIdeal.Gen Cert.Proof.Finals Cert.Proof.Contents Cert.Proof.Run
open Idealize.ShloMosaic Idealize.SL.Sem
open Idealize.ShloMosaic.ValueIdx

variable {F : FTy → Type} [FloatOps F] [Named F]

/-- Row `r`, column `c` of the result is element `258 r + c` of the flat contents. -/
theorem flat_ix (r : Fin 16) (c : Fin 258) :
    Shape.reshapeEquiv (shapeCasts_S4128_S16x258 : S4128.ShapeCasts S16x258) (ix2 r c)
      = ix1 (⟨r.val * 258 + c.val, by omega⟩ : Fin 4128) :=
  Shape.reshapeEquiv_eq_of_rowMajor _ (by rw [Shape.rowMajor_val_one, Shape.rowMajor_val_two]; rfl)

/-- Row `q`, half `p`, lane `c` of the regrouped payload is position `q % 4096` of sequence `q / 4096`, feature `128 p + c`. -/
theorem payload_ix (q : Fin 65536) (p : Fin 2) (c : Fin 128) :
    Shape.reshapeEquiv (shapeCasts_S16x4096x256_S65536x2x128 : S16x4096x256.ShapeCasts S65536x2x128) (ix3 q p c)
      = ix3 (⟨q.val / 4096, by omega⟩ : Fin 16) (⟨q.val % 4096, by omega⟩ : Fin 4096) (⟨p.val * 128 + c.val, by omega⟩ : Fin 256) := by
  refine Shape.reshapeEquiv_eq_of_rowMajor _ ?_
  rw [Shape.rowMajor_val_three, Shape.rowMajor_val_three]
  show (q.val / 4096 * 4096 + q.val % 4096) * 256 + (p.val * 128 + c.val) = (q.val * 2 + p.val) * 128 + c.val
  omega

/-- The position of a length's last element. -/
abbrev last (l : IVec S16 32) (hl : ∀ b, 1 ≤ (l b).toNat ∧ (l b).toNat ≤ 4096) (r : Fin 16) : Fin 4096 :=
  ⟨(l (ix1 r)).toNat - 1, by have := hl (ix1 r); omega⟩

/-- The first 256 columns hold each row's last element's features. -/
theorem res_row (a : FVec F S16x4096x256 .f32) (l : IVec S16 32) (hl : ∀ b, 1 ≤ (l b).toNat ∧ (l b).toNat ≤ 4096)
    (r : Fin 16) (c : Fin 258) (hc : c.val < 256) : resF a l (ix2 r c) = a (ix3 r (last l hl r) (⟨c.val, hc⟩ : Fin 256)) := by
  have hr := r.isLt
  show outF (xF a) l (Shape.reshapeEquiv (shapeCasts_S4128_S16x258 : S4128.ShapeCasts S16x258) (ix2 r c)) = _
  rw [flat_ix]
  unfold outF
  refine (if_pos (show (r.val * 258 + c.val) % 258 < 256 by omega)).trans ?_
  show a (Shape.reshapeEquiv (shapeCasts_S16x4096x256_S65536x2x128 : S16x4096x256.ShapeCasts S65536x2x128) (ix3 _ _ _)) = _
  refine (congrArg a (payload_ix _ _ _)).trans ?_
  have hq : (k0_pay1 (F := F) l (ix1 (⟨(r.val * 258 + c.val) / 258, by omega⟩ : Fin 16))).toNat = r.val * 4096 + (l (ix1 r)).toNat - 1 := by
    have e : (⟨(r.val * 258 + c.val) / 258, by omega⟩ : Fin 16) = r := Fin.ext (show (r.val * 258 + c.val) / 258 = r.val by omega)
    rw [e]; exact word_pay1 l hl r
  obtain ⟨h1, h2⟩ := hl (ix1 r)
  congr 1
  have e0 : ∀ (q : ℕ) (_ : q = r.val * 4096 + (l (ix1 r)).toNat - 1) (h), (⟨q % 65536 / 4096, h⟩ : Fin 16) = r := fun q hq _ => Fin.ext (by
    show q % 65536 / 4096 = r.val
    omega)
  have e1 : ∀ (q : ℕ) (_ : q = r.val * 4096 + (l (ix1 r)).toNat - 1) (h), (⟨q % 65536 % 4096, h⟩ : Fin 4096) = last l hl r := fun q hq _ => Fin.ext (by
    show q % 65536 % 4096 = (l (ix1 r)).toNat - 1
    omega)
  have e2 : ∀ h, (⟨(r.val * 258 + c.val) % 258 / 128 % 2 * 128 + (r.val * 258 + c.val) % 258 % 128, h⟩ : Fin 256) = ⟨c.val, hc⟩ := fun _ => Fin.ext (by
    show (r.val * 258 + c.val) % 258 / 128 % 2 * 128 + (r.val * 258 + c.val) % 258 % 128 = c.val
    omega)
  funext i
  match i with
  | 0 => exact e0 _ hq _
  | 1 => exact e1 _ hq _
  | 2 => exact e2 _

/-- Column 256 holds the lengths over 200. -/
theorem res_256 (a : FVec F S16x4096x256 .f32) (l : IVec S16 32) (r : Fin 16) (c : Fin 258) (hc : c.val = 256) :
    resF a l (ix2 r c) = k0_pay4 (F := F) l (ix1 r) := by
  have hr := r.isLt
  show outF (xF a) l (Shape.reshapeEquiv (shapeCasts_S4128_S16x258 : S4128.ShapeCasts S16x258) (ix2 r c)) = _
  rw [flat_ix]
  unfold outF
  refine (if_neg (show ¬ (r.val * 258 + c.val) % 258 < 256 by omega)).trans ((if_pos (show (r.val * 258 + c.val) % 258 = 256 by omega)).trans ?_)
  exact congrArg (fun b : Fin 16 => k0_pay4 (F := F) l (ix1 b)) (Fin.ext (show (r.val * 258 + c.val) / 258 = r.val by omega))

/-- Column 257 holds the named logarithm less the lengths' logarithms. -/
theorem res_257 (a : FVec F S16x4096x256 .f32) (l : IVec S16 32) (r : Fin 16) (c : Fin 258) (hc : c.val = 257) :
    resF a l (ix2 r c) = lastF (F := F) l (ix1 r) := by
  have hr := r.isLt
  show outF (xF a) l (Shape.reshapeEquiv (shapeCasts_S4128_S16x258 : S4128.ShapeCasts S16x258) (ix2 r c)) = _
  rw [flat_ix]
  unfold outF
  refine (if_neg (show ¬ (r.val * 258 + c.val) % 258 < 256 by omega)).trans ((if_neg (show ¬ (r.val * 258 + c.val) % 258 = 256 by omega)).trans ?_)
  exact congrArg (fun b : Fin 16 => lastF (F := F) l (ix1 b)) (Fin.ext (show (r.val * 258 + c.val) / 258 = r.val by omega))

end Cert.Proof.Layout

end
-- ==== Proof.RefAt.lean ====
/-
  The reference's result read at a row and a column, over any float values: the payload's element its gather names, the
  quotient, or the negated logarithm.
-/
module

public import proofs.«01_k».proof.Proof.Gen.ReferenceIdeal
public import Idealize.ShloMosaic.Lib.ValueIdxCore
public import Idealize.ShloMosaic.Lib.Pointwise.SelectCore

@[expose] public section

noncomputable section

namespace Cert.Proof.RefAt

open Cert.ReferenceIdeal Cert.ReferenceIdeal.Gen
open Idealize.ShloMosaic hiding ix1 ix2 ix3
open Idealize.SL.Sem
open Idealize.ShloMosaic.ValueIdx

variable {F : FTy → Type} [FloatOps F]

/-- The sequences' numbers, a negative one counted from the end. -/
def rowsI : IVec S16 32 :=
  select (cmpi .slt (iotaInDim S16 32 0) (broadcastInDim S16 ![] bcast_S_S16 (constantI S_ 32 0#32)))
    (addi (iotaInDim S16 32 0) (broadcastInDim S16 ![] bcast_S_S16 (constantI S_ 32 16#32))) (iotaInDim S16 32 0)

/-- The lengths less one. -/
def lessI (l : IVec S16 32) : IVec S16 32 := subi l (broadcastInDim S16 ![] bcast_S_S16 (constantI S_ 32 1#32))

/-- The positions, a negative one counted from the end. -/
def posI (l : IVec S16 32) : IVec S16 32 :=
  select (cmpi .slt (lessI l) (broadcastInDim S16 ![] bcast_S_S16 (constantI S_ 32 0#32)))
    (addi (lessI l) (broadcastInDim S16 ![] bcast_S_S16 (constantI S_ 32 4096#32))) (lessI l)

/-- The gather's start indices: a sequence's number and a position in each row. -/
def startI (l : IVec S16 32) : IVec S16x2 32 :=
  concatenate S16x2 1 [⟨S16x1, broadcastInDim S16x1 ![0] bcast_S16_S16x1_0 rowsI⟩, ⟨S16x1, broadcastInDim S16x1 ![0] bcast_S16_S16x1_0 (posI l)⟩]
    concatenates_S16x1_S16x1_S16x2_d1

/-- The gathered rows. -/
def gathF (a : FVec F S16x4096x256 .f32) (l : IVec S16 32) : FVec F S16x256 .f32 :=
  Host.gather gather_S16x4096x256_S16x2_S16x256_1_01_n_n_01_1_11256 a (startI l)

/-- The lengths over 200. -/
def quotF (l : IVec S16 32) : FVec F S16x1 .f32 :=
  Host.divf (broadcastInDim S16x1 ![0] bcast_S16_S16x1_0 (sitofp .f32 l)) (broadcastInDim S16x1 ![] bcast_S_S16x1 (constant S_ .f32 0x43480000#32))

/-- The reference's result. -/
def refF (a : FVec F S16x4096x256 .f32) (l : IVec S16 32) : FVec F S16x258 .f32 :=
  concatenate S16x258 1 [⟨S16x256, gathF a l⟩, ⟨S16x1, quotF (F := F) l⟩, ⟨S16x1, Host.negf (Host.log (quotF (F := F) l))⟩]
    concatenates_S16x256_S16x1_S16x1_S16x258_d1

/-- The start indices' first column: the row's own number. -/
theorem start_row (l : IVec S16 32) (r : Fin 16) : startI l (ix2 r (0 : Fin 2)) = BitVec.ofNat 32 r.val := by
  have e : startI l (ix2 r (0 : Fin 2)) = rowsI (ix1 r) := by
    unfold startI
    rw [concatenate_pair_apply]
    refine (dif_pos (show (0 : ℕ) < 1 by omega)).trans ?_
    refine congrArg rowsI ?_
    funext i; match i with | 0 => rfl
  rw [e]
  clear e
  revert r
  unfold rowsI
  decide +kernel

/-- The start indices' second column: the length less one, when the length is positive. -/
theorem start_pos (l : IVec S16 32) (r : Fin 16) (h : 1 ≤ (l (ix1 r)).toNat ∧ (l (ix1 r)).toNat ≤ 4096) :
    startI l (ix2 r (1 : Fin 2)) = l (ix1 r) - 1#32 := by
  have e : startI l (ix2 r (1 : Fin 2)) = posI l (ix1 r) := by
    unfold startI
    rw [concatenate_pair_apply]
    refine (dif_neg (show ¬ (1 : ℕ) < 1 by omega)).trans ?_
    refine congrArg (posI l) ?_
    funext i; match i with | 0 => rfl
  rw [e]
  show (if IntOp.cmpi .slt (l (ix1 r) - 1#32) 0#32 = 1 then l (ix1 r) - 1#32 + 4096#32 else l (ix1 r) - 1#32) = _
  obtain ⟨h1, h2⟩ := h
  refine if_neg ?_
  generalize l (ix1 r) = v at h1 h2
  intro hc
  have hz : (v - 1#32).slt 0#32 = true := by
    revert hc
    unfold IntOp.cmpi
    cases hb : (v - 1#32).slt 0#32 <;> simp
  rw [BitVec.slt_eq_decide, decide_eq_true_eq, BitVec.toInt_eq_toNat_cond, BitVec.toNat_sub] at hz
  simp only [BitVec.toNat_ofNat, BitVec.toInt_zero, Nat.reducePow, Nat.reduceMod] at hz
  omega

/-- Where the gather reads a sequence's number. -/
theorem siIdx_zero (r : Fin 16) (c : Fin 256) (h) :
    (gather_S16x4096x256_S16x2_S16x256_1_01_n_n_01_1_11256).siIdx (ix2 r c)
      ⟨List.idxOf (0 : Fin 3) (gather_S16x4096x256_S16x2_S16x256_1_01_n_n_01_1_11256).startIndexMap, h⟩ = ix2 r (0 : Fin 2) := by
  funext b
  match b with
  | 0 => rfl
  | 1 => rfl

/-- Where the gather reads a position. -/
theorem siIdx_one (r : Fin 16) (c : Fin 256) (h) :
    (gather_S16x4096x256_S16x2_S16x256_1_01_n_n_01_1_11256).siIdx (ix2 r c)
      ⟨List.idxOf (1 : Fin 3) (gather_S16x4096x256_S16x2_S16x256_1_01_n_n_01_1_11256).startIndexMap, h⟩ = ix2 r (1 : Fin 2) := by
  funext b
  match b with
  | 0 => rfl
  | 1 => rfl

/-- The gathered rows, read at a row and a feature: the payload at the row's last position. -/
theorem gath_at (a : FVec F S16x4096x256 .f32) (l : IVec S16 32) (r : Fin 16) (c : Fin 256)
    (h : 1 ≤ (l (ix1 r)).toNat ∧ (l (ix1 r)).toNat ≤ 4096) :
    gathF a l (ix2 r c) = a (ix3 r (⟨(l (ix1 r)).toNat - 1, by omega⟩ : Fin 4096) c) := by
  have hr := r.isLt
  unfold gathF Host.gather
  congr 1
  funext i
  refine Fin.ext ?_
  show (gather_S16x4096x256_S16x2_S16x256_1_01_n_n_01_1_11256).start (ix2 r c) (startI l) i
      + (gather_S16x4096x256_S16x2_S16x256_1_01_n_n_01_1_11256).batchCoord (ix2 r c) i
      + (gather_S16x4096x256_S16x2_S16x256_1_01_n_n_01_1_11256).offCoord (ix2 r c) i = _
  rw [GatherDims.batchCoord_eq_zero _ _ _ List.not_mem_nil]
  match i with
  | 0 =>
    rw [GatherDims.offCoord_eq_zero _ _ _ (by decide)]
    unfold GatherDims.start
    rw [dif_pos (by decide), siIdx_zero, start_row]
    show min (BitVec.ofNat 32 r.val).toInt.toNat (16 - 1) = r.val
    rw [BitVec.toInt_eq_toNat_cond, BitVec.toNat_ofNat]
    omega
  | 1 =>
    rw [GatherDims.offCoord_eq_zero _ _ _ (by decide)]
    unfold GatherDims.start
    rw [dif_pos (by decide), siIdx_one, start_pos l r h]
    show min (l (ix1 r) - 1#32).toInt.toNat (4096 - 1) = (l (ix1 r)).toNat - 1
    rw [BitVec.toInt_eq_toNat_cond, BitVec.toNat_sub_of_le (by rw [BitVec.le_def]; exact h.1)]
    show min (if 2 * ((l (ix1 r)).toNat - 1) < 2 ^ 32 then (((l (ix1 r)).toNat - 1 : ℕ) : ℤ) else _).toNat (4096 - 1) = _
    rw [if_pos (by omega)]
    omega
  | 2 =>
    unfold GatherDims.start
    rw [dif_neg (by decide)]
    unfold GatherDims.offCoord
    rw [dif_pos (by decide)]
    exact Nat.zero_add _

/-- The first 256 columns are the gathered rows. -/
theorem ref_row (a : FVec F S16x4096x256 .f32) (l : IVec S16 32) (r : Fin 16) (c : Fin 258) (hc : c.val < 256) :
    refF a l (ix2 r c) = gathF a l (ix2 r (⟨c.val, hc⟩ : Fin 256)) := by
  unfold refF
  rw [concatenate_cons_apply, concatenateAt_cons]
  refine (dif_pos (show c.val < 256 from hc)).trans ?_
  refine congrArg (gathF a l) ?_
  funext i
  match i with
  | 0 => rfl
  | 1 => rfl

/-- Column 256 is the quotient. -/
theorem ref_256 (a : FVec F S16x4096x256 .f32) (l : IVec S16 32) (r : Fin 16) (c : Fin 258) (hc : c.val = 256) :
    refF a l (ix2 r c) = quotF (F := F) l (ix2 r (0 : Fin 1)) := by
  rw [show c = (⟨256, by omega⟩ : Fin 258) from Fin.ext hc]
  unfold refF
  rw [concatenate_cons_apply, concatenateAt_cons]
  refine (dif_neg (show ¬ (256 : ℕ) < 256 by omega)).trans ?_
  rw [concatenateAt_cons]
  refine (dif_pos (show (256 - 256 : ℕ) < 1 by omega)).trans ?_
  refine congrArg (quotF (F := F) l) ?_
  funext i
  match i with
  | 0 => rfl
  | 1 => rfl

/-- Column 257 is its negated logarithm. -/
theorem ref_257 (a : FVec F S16x4096x256 .f32) (l : IVec S16 32) (r : Fin 16) (c : Fin 258) (hc : c.val = 257) :
    refF a l (ix2 r c) = Host.negf (Host.log (quotF (F := F) l)) (ix2 r (0 : Fin 1)) := by
  rw [show c = (⟨257, by omega⟩ : Fin 258) from Fin.ext hc]
  unfold refF
  rw [concatenate_cons_apply, concatenateAt_cons]
  refine (dif_neg (show ¬ (257 : ℕ) < 256 by omega)).trans ?_
  rw [concatenateAt_cons]
  refine (dif_neg (show ¬ (257 - 256 : ℕ) < 1 by omega)).trans ?_
  rw [concatenateAt_singleton]
  refine congrArg (Host.negf (Host.log (quotF (F := F) l))) ?_
  funext i
  match i with
  | 0 => rfl
  | 1 => rfl

end Cert.Proof.RefAt

end
-- ==== Proof.Consts.lean ====
/-
  The float constant the reference divides by, as the extended real its bits denote.
-/
module

public import Idealize.ShloMosaic.PureOps.Ideal

@[expose] public section

noncomputable section

namespace Cert.Proof.Consts

open Idealize.ShloMosaic

/-- The reference's divisor denotes the real 200. -/
theorem two_hundred : Ideal.ofBits .f32 0x43480000#32 = ((200 : ℝ) : EReal) := by
  simp [Ideal.ofBits, Ideal.ieee, -EReal.coe_mul]; norm_num

end Cert.Proof.Consts

end
-- ==== Proof.Value.lean ====
/-
  Over the extended reals the reference's result is the kernel's: the same rows of the payload, a length times 1/200
  for a length over 200, and log 200 less a length's logarithm for the negated logarithm of the quotient.
-/
module

public import proofs.«01_k».proof.Proof.Claims
public import proofs.«01_k».proof.Proof.Layout
public import proofs.«01_k».proof.Proof.RefAt
public import proofs.«01_k».proof.Proof.Consts

@[expose] public section

noncomputable section

namespace Cert.Proof.Value

open Cert.Proof.Finals Cert.Proof.Run Cert.Proof.Layout Cert.Proof.RefAt
open Idealize.ShloMosaic hiding ix1 ix2 ix3
open Idealize.SL.Sem
open Idealize.ShloMosaic.ValueIdx

/-- The named reciprocal denotes 1/200. -/
theorem inv200 : Named.named (F := Ideal) Cert.KernelIdeal.κ "inv200" (φ := .f32) 0x3BA3D70A#32 = ((1 / 200 : ℝ) : EReal) :=
  IdealRules.named_const.ideal_named_scalar _ _ _ _ rfl

/-- The named logarithm denotes log 200. -/
theorem log200 : Named.named (F := Ideal) Cert.KernelIdeal.κ "log200" (φ := .f32) 0x40A98BD1#32 = ((Real.log 200 : ℝ) : EReal) :=
  IdealRules.named_const.ideal_named_scalar _ _ _ _ rfl

/-- A real over the reference's divisor: the real times 1/200. -/
theorem div_200 (k : ℝ) : Ideal.div (k : EReal) (Ideal.ofBits .f32 0x43480000#32) = ((k * (1 / 200) : ℝ) : EReal) := by
  rw [Consts.two_hundred, Ideal.div_coe (by norm_num : (200 : ℝ) ≠ 0), EReal.coe_mul, one_div]

/-- For a positive real `k`, log 200 less log k is the negated logarithm of k/200. -/
theorem log_quot (k : ℝ) (hk : 0 < k) :
    ((Real.log 200 : ℝ) : EReal) - Ideal.log (k : EReal) = -Ideal.log ((k * (1 / 200) : ℝ) : EReal) := by
  rw [Ideal.log_coe, Ideal.log_coe, if_neg (not_le.mpr hk), if_neg (not_le.mpr (by positivity)), ← EReal.coe_sub, ← EReal.coe_neg,
    Real.log_mul hk.ne' (by norm_num), one_div, Real.log_inv]
  congr 1
  ring

/-- A length, as a real, is positive. -/
theorem len_pos (v : BitVec 32) (h : 1 ≤ v.toNat ∧ v.toNat ≤ 4096) : (0 : ℝ) < ((v.toInt : ℤ) : ℝ) := by
  obtain ⟨h1, h2⟩ := h
  have : 0 < v.toInt := by rw [BitVec.toInt_eq_toNat_cond, if_pos (by omega)]; omega
  exact_mod_cast this

/-- The reference's quotient is the kernel's product. -/
theorem quot_at (l : IVec Cert.KernelIdeal.S16 32) (r : Fin 16) :
    quotF (F := Ideal) l (ix2 r (0 : Fin 1)) = ((((l (ix1 r)).toInt : ℝ) * (1 / 200) : ℝ) : EReal) := by
  rw [← div_200]
  have e : ∀ x : Cert.ReferenceIdeal.S16.Idx, x = ix1 r → Ideal.div (((l x).toInt : ℝ) : EReal) (Ideal.ofBits .f32 0x43480000#32)
      = Ideal.div (((l (ix1 r)).toInt : ℝ) : EReal) (Ideal.ofBits .f32 0x43480000#32) := fun x hx => by rw [hx]
  refine e _ ?_
  funext i; match i with | 0 => rfl

/-- From lengths between 1 and 4096 the reference's result is the kernel's, at each row and column. -/
theorem ref_at (a : FVec Ideal Cert.KernelIdeal.S16x4096x256 .f32) (l : IVec Cert.KernelIdeal.S16 32)
    (hl : ∀ b, 1 ≤ (l b).toNat ∧ (l b).toNat ≤ 4096) (r : Fin 16) (c : Fin 258) :
    refF (F := Ideal) a l (ix2 r c) = resF (F := Ideal) a l (ix2 r c) := by
  by_cases h1 : c.val < 256
  · exact (ref_row a l r c h1).trans ((gath_at a l r ⟨c.val, h1⟩ (hl _)).trans (res_row a l hl r c h1).symm)
  · by_cases h2 : c.val = 256
    · refine (ref_256 a l r c h2).trans (Eq.trans ?_ (res_256 a l r c h2).symm)
      rw [quot_at]
      show _ = (((l (ix1 r)).toInt : ℝ) : EReal) * Named.named (F := Ideal) Cert.KernelIdeal.κ "inv200" (φ := .f32) 0x3BA3D70A#32
      rw [inv200, EReal.coe_mul]
    · have h3 : c.val = 257 := by have := c.isLt; omega
      refine (ref_257 a l r c h3).trans (Eq.trans ?_ (res_257 a l r c h3).symm)
      show -Ideal.log (quotF (F := Ideal) l (ix2 r (0 : Fin 1)))
        = Named.named (F := Ideal) Cert.KernelIdeal.κ "log200" (φ := .f32) 0x40A98BD1#32 - Ideal.log (((l (ix1 r)).toInt : ℝ) : EReal)
      rw [quot_at, log200, log_quot _ (len_pos _ (hl _))]

/-- From lengths between 1 and 4096 the reference's result is the kernel's. -/
theorem ref_eq (a : FVec Ideal Cert.KernelIdeal.S16x4096x256 .f32) (l : IVec Cert.KernelIdeal.S16 32)
    (hl : ∀ b, 1 ≤ (l b).toNat ∧ (l b).toNat ≤ 4096) : refF (F := Ideal) a l = resF (F := Ideal) a l := by
  funext y
  rw [ValueIdx.eq_ix2 y]
  exact ref_at a l hl _ _

/-- Over the extended reals, from equal arguments with lengths in range, the kernel and the reference end with equal
    results, their arguments unchanged. -/
theorem algebraic : letI := Cert.KernelIdeal.Gen.facts; letI := Cert.ReferenceIdeal.Gen.facts; letI := Cert.Pre_in_range.Gen.facts
    Cert.algebraic_KernelIdeal_ReferenceIdeal := by
  intro m ρ m' ρ' hpre hagree
  have hok : PreOK (F := Ideal) m := fun d b => Claims.range_of_fn _ _ (hpre d) b
  refine ⟨fun c => yM m c, (θ_run _ _ _).mono (fun _ h c => h.1 c) (run_main (F := Ideal) m ρ hok), ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact ref_eq _ _ (hok c)

end Cert.Proof.Value

end
-- ==== Proof.lean ====
/-
  The certificate's claims, assembled: the frames and the named constants (Proof/Claims.lean), and the equation of the
  kernel and the reference over the extended reals (Proof/Value.lean).
-/
module

public import proofs.«01_k».proof.Defs
public import proofs.«01_k».proof.Proof.Claims
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.Pre_in_range.Gen.facts,
    Claims.frame_p, Claims.frame_pi, Claims.frame_ri, Claims.preserves, Value.algebraic⟩

end Cert.Proof

end
